-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v226) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S65536x8 : Shape := ⟨2, ![65536, 8]⟩
abbrev S512x8 : Shape := ⟨2, ![512, 8]⟩
abbrev S512x8x8 : Shape := ⟨3, ![512, 8, 8]⟩
abbrev S8x8 : Shape := ⟨2, ![8, 8]⟩
abbrev S_ : Shape := ⟨0, ![]⟩
abbrev S512x8x16 : Shape := ⟨3, ![512, 8, 16]⟩
abbrev S512x1x1 : Shape := ⟨3, ![512, 1, 1]⟩
abbrev S512 : Shape := ⟨1, ![512]⟩
abbrev S512x1x16 : Shape := ⟨3, ![512, 1, 16]⟩
abbrev S512x16 : Shape := ⟨2, ![512, 16]⟩
abbrev S512x1 : Shape := ⟨2, ![512, 1]⟩
abbrev S512x8x1 : Shape := ⟨3, ![512, 8, 1]⟩
abbrev S8 : Shape := ⟨1, ![8]⟩
abbrev S1x8x1 : Shape := ⟨3, ![1, 8, 1]⟩
abbrev S65536x512x8 : Shape := ⟨3, ![65536, 512, 8]⟩
abbrev S65536x512 : Shape := ⟨2, ![65536, 512]⟩
abbrev S1x512 : Shape := ⟨2, ![1, 512]⟩
abbrev S65536x511 : Shape := ⟨2, ![65536, 511]⟩

class Facts : Prop where
  bcast_S_S8x8 : S_.BroadcastsInDim S8x8 (![] : Fin 0 → Fin S8x8.rank)
  bcast_S8x8_S512x8x8_1_2 : S8x8.BroadcastsInDim S512x8x8 (![1, 2] : Fin 2 → Fin S512x8x8.rank)
  concatenates_S512x8x8_S512x8x8_S512x8x16_d2 : Shape.Concatenates [S512x8x8, S512x8x8] S512x8x16 2
  slices_S512x8x16_S512x1x1_0_0_0 : S512x8x16.Slices ![0, 0, 0] S512x1x1
  shapeCasts_S512x1x1_S512 : S512x1x1.ShapeCasts S512
  slices_S512x8x16_S512x1x16_0_0_0 : S512x8x16.Slices ![0, 0, 0] S512x1x16
  shapeCasts_S512x1x16_S512x16 : S512x1x16.ShapeCasts S512x16
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  slices_S512x8x16_S512x8x1_0_0_0 : S512x8x16.Slices ![0, 0, 0] S512x8x1
  shapeCasts_S512x8x1_S512x8 : S512x8x1.ShapeCasts S512x8
  bcast_S_S8 : S_.BroadcastsInDim S8 (![] : Fin 0 → Fin S8.rank)
  bcast_S8_S1x8x1_1 : S8.BroadcastsInDim S1x8x1 (![1] : Fin 1 → Fin S1x8x1.rank)
  bcast_S512x16_S512x1x16_0_2 : S512x16.BroadcastsInDim S512x1x16 (![0, 2] : Fin 2 → Fin S512x1x16.rank)
  bcast_S512x8_S512x8x1_0_1 : S512x8.BroadcastsInDim S512x8x1 (![0, 1] : Fin 2 → Fin S512x8x1.rank)
  bcast_S512x8x1_S512x8x16_0_1_2 : S512x8x1.BroadcastsInDim S512x8x16 (![0, 1, 2] : Fin 3 → Fin S512x8x16.rank)
  bcast_S512x1x16_S512x8x16_0_1_2 : S512x1x16.BroadcastsInDim S512x8x16 (![0, 1, 2] : Fin 3 → Fin S512x8x16.rank)
  bcast_S1x8x1_S512x8x16_0_1_2 : S1x8x1.BroadcastsInDim S512x8x16 (![0, 1, 2] : Fin 3 → Fin S512x8x16.rank)
  slices_S512x8x16_S512x1x1_0_1_1 : S512x8x16.Slices ![0, 1, 1] S512x1x1
  slices_S512x8x16_S512x1x16_0_1_0 : S512x8x16.Slices ![0, 1, 0] S512x1x16
  slices_S512x8x16_S512x8x1_0_0_1 : S512x8x16.Slices ![0, 0, 1] S512x8x1
  slices_S512x8x16_S512x1x1_0_2_2 : S512x8x16.Slices ![0, 2, 2] S512x1x1
  slices_S512x8x16_S512x1x16_0_2_0 : S512x8x16.Slices ![0, 2, 0] S512x1x16
  slices_S512x8x16_S512x8x1_0_0_2 : S512x8x16.Slices ![0, 0, 2] S512x8x1
  slices_S512x8x16_S512x1x1_0_3_3 : S512x8x16.Slices ![0, 3, 3] S512x1x1
  slices_S512x8x16_S512x1x16_0_3_0 : S512x8x16.Slices ![0, 3, 0] S512x1x16
  slices_S512x8x16_S512x8x1_0_0_3 : S512x8x16.Slices ![0, 0, 3] S512x8x1
  slices_S512x8x16_S512x1x1_0_4_4 : S512x8x16.Slices ![0, 4, 4] S512x1x1
  slices_S512x8x16_S512x1x16_0_4_0 : S512x8x16.Slices ![0, 4, 0] S512x1x16
  slices_S512x8x16_S512x8x1_0_0_4 : S512x8x16.Slices ![0, 0, 4] S512x8x1
  slices_S512x8x16_S512x1x1_0_5_5 : S512x8x16.Slices ![0, 5, 5] S512x1x1
  slices_S512x8x16_S512x1x16_0_5_0 : S512x8x16.Slices ![0, 5, 0] S512x1x16
  slices_S512x8x16_S512x8x1_0_0_5 : S512x8x16.Slices ![0, 0, 5] S512x8x1
  slices_S512x8x16_S512x1x1_0_6_6 : S512x8x16.Slices ![0, 6, 6] S512x1x1
  slices_S512x8x16_S512x1x16_0_6_0 : S512x8x16.Slices ![0, 6, 0] S512x1x16
  slices_S512x8x16_S512x8x1_0_0_6 : S512x8x16.Slices ![0, 0, 6] S512x8x1
  slices_S512x8x16_S512x1x1_0_7_7 : S512x8x16.Slices ![0, 7, 7] S512x1x1
  slices_S512x8x16_S512x1x16_0_7_0 : S512x8x16.Slices ![0, 7, 0] S512x1x16
  slices_S512x8x16_S512x8x1_0_0_7 : S512x8x16.Slices ![0, 0, 7] S512x8x1
  slices_S512x8x16_S512x8x8_0_0_8 : S512x8x16.Slices ![0, 0, 8] S512x8x8
  bcast_S_S512 : S_.BroadcastsInDim S512 (![] : Fin 0 → Fin S512.rank)
  bcast_S_S65536x512 : S_.BroadcastsInDim S65536x512 (![] : Fin 0 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S512x8x8_S512x8x8_0_2_1 : S512x8x8.Transposes [0, 2, 1] S512x8x8
  slices_S65536x512_S65536x511_0_0 : S65536x512.Slices ![0, 0] S65536x511
  slices_S65536x512_S65536x511_0_1 : S65536x512.Slices ![0, 1] S65536x511
  dot_S65536x8_S512x8x8_S65536x512x8_1_1_0_02_n_n_wf : DotDims.WF S65536x8 S512x8x8 S65536x512x8 [1] [1] [0] [0, 2] [] []
  dot_S65536x512x8_S65536x8_S65536x512_2_1_1_n_0_0_wf : DotDims.WF S65536x512x8 S65536x8 S65536x512 [2] [1] [1] [] [0] [0]
  dot_S512x8x8_S512x8_S512x8_2_1_1_n_0_0_wf : DotDims.WF S512x8x8 S512x8 S512x8 [2] [1] [1] [] [0] [0]
  dot_S65536x8_S512x8_S65536x512_1_1_0_0_n_n_wf : DotDims.WF S65536x8 S512x8 S65536x512 [1] [1] [0] [0] [] []
  dot_S512x8_S512x8x8_S512x8_1_1_n_2_0_0_wf : DotDims.WF S512x8 S512x8x8 S512x8 [1] [1] [] [2] [0] [0]
  dot_S512x8_S512x8_S512_1_1_n_n_0_0_wf : DotDims.WF S512x8 S512x8 S512 [1] [1] [] [] [0] [0]

variable [Facts]

variable {F : FTy → Type} [FloatOps F]
def dot_S65536x8_S512x8x8_S65536x512x8_1_1_0_02_n_n : DotDims S65536x8 S512x8x8 S65536x512x8 where
  lhsContracting := [1]
  rhsContracting := [1]
  lhsNonContracting := [0]
  rhsNonContracting := [0, 2]
  lhsBatch := []
  rhsBatch := []
  wf := dot_S65536x8_S512x8x8_S65536x512x8_1_1_0_02_n_n_wf
def dot_S65536x512x8_S65536x8_S65536x512_2_1_1_n_0_0 : DotDims S65536x512x8 S65536x8 S65536x512 where
  lhsContracting := [2]
  rhsContracting := [1]
  lhsNonContracting := [1]
  rhsNonContracting := []
  lhsBatch := [0]
  rhsBatch := [0]
  wf := dot_S65536x512x8_S65536x8_S65536x512_2_1_1_n_0_0_wf
def dot_S512x8x8_S512x8_S512x8_2_1_1_n_0_0 : DotDims S512x8x8 S512x8 S512x8 where
  lhsContracting := [2]
  rhsContracting := [1]
  lhsNonContracting := [1]
  rhsNonContracting := []
  lhsBatch := [0]
  rhsBatch := [0]
  wf := dot_S512x8x8_S512x8_S512x8_2_1_1_n_0_0_wf
def dot_S65536x8_S512x8_S65536x512_1_1_0_0_n_n : DotDims S65536x8 S512x8 S65536x512 where
  lhsContracting := [1]
  rhsContracting := [1]
  lhsNonContracting := [0]
  rhsNonContracting := [0]
  lhsBatch := []
  rhsBatch := []
  wf := dot_S65536x8_S512x8_S65536x512_1_1_0_0_n_n_wf
def dot_S512x8_S512x8x8_S512x8_1_1_n_2_0_0 : DotDims S512x8 S512x8x8 S512x8 where
  lhsContracting := [1]
  rhsContracting := [1]
  lhsNonContracting := []
  rhsNonContracting := [2]
  lhsBatch := [0]
  rhsBatch := [0]
  wf := dot_S512x8_S512x8x8_S512x8_1_1_n_2_0_0_wf
def dot_S512x8_S512x8_S512_1_1_n_n_0_0 : DotDims S512x8 S512x8 S512 where
  lhsContracting := [1]
  rhsContracting := [1]
  lhsNonContracting := []
  rhsNonContracting := []
  lhsBatch := [0]
  rhsBatch := [0]
  wf := dot_S512x8_S512x8_S512_1_1_n_n_0_0_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_where {F : FTy → Type} [FloatOps F] (arg0 : IVec S1x8x1 1) (arg1 : FVec F S512x1x16 .f32) (arg2 : FVec F S512x8x16 .f32) : FVec F S512x8x16 .f32 :=
  let v0 : IVec S512x8x16 1 := broadcastInDim S512x8x16 ![0, 1, 2] bcast_S1x8x1_S512x8x16_0_1_2 arg0
  let v1 : FVec F S512x8x16 .f32 := broadcastInDim S512x8x16 ![0, 1, 2] bcast_S512x1x16_S512x8x16_0_1_2 arg1
  let v2 : FVec F S512x8x16 .f32 := select v0 v1 arg2
  v2

def fn_sort {F : FTy → Type} [FloatOps F] (arg0 : FVec F S65536x512 .f32) : FVec F S65536x512 .f32 :=
  let v0 : FVec F S65536x512 .f32 := (fun x => Host.sort S65536x512 1 comparator_f32_d1 x) arg0
  v0

def fn_part18 {F : FTy → Type} [FloatOps F] (main_v223 : IVec S512x8x8 1) (main_v226 : IVec S65536x511 1) (main_v278 : FVec F S512 .f32) (main_v299 : FVec F S512 .f32) (main_v320 : FVec F S512 .f32) (main_v341 : FVec F S512 .f32) (main_v362 : FVec F S512 .f32) (main_v383 : FVec F S512 .f32) (main_v404 : IVec S512 1) (main_v406 : IVec S512 1) (main_cst_22 : FVec F S_ .f32) : IVec S512x8x8 1 × IVec S65536x511 1 × IVec S512 1 × IVec S512 1 × IVec S512 1 × IVec S512 1 × IVec S512 1 × IVec S512 1 × IVec S512 1 × IVec S512 1 :=
  let main_v407 : FVec F S512 .f32 := broadcastInDim S512 ![] bcast_S_S512 main_cst_22
  let main_v408 : IVec S512 1 := cmpf .oge main_v278 main_v407
  let main_cst_23 : FVec F S_ .f32 := constant S_ .f32 0x00000000#32
  let main_v409 : FVec F S512 .f32 := broadcastInDim S512 ![] bcast_S_S512 main_cst_23
  let main_v410 : IVec S512 1 := cmpf .oge main_v299 main_v409
  let main_cst_24 : FVec F S_ .f32 := constant S_ .f32 0x00000000#32
  let main_v411 : FVec F S512 .f32 := broadcastInDim S512 ![] bcast_S_S512 main_cst_24
  let main_v412 : IVec S512 1 := cmpf .oge main_v320 main_v411
  let main_cst_25 : FVec F S_ .f32 := constant S_ .f32 0x00000000#32
  let main_v413 : FVec F S512 .f32 := broadcastInDim S512 ![] bcast_S_S512 main_cst_25
  let main_v414 : IVec S512 1 := cmpf .oge main_v341 main_v413
  let main_cst_26 : FVec F S_ .f32 := constant S_ .f32 0x00000000#32
  let main_v415 : FVec F S512 .f32 := broadcastInDim S512 ![] bcast_S_S512 main_cst_26
  let main_v416 : IVec S512 1 := cmpf .oge main_v362 main_v415
  let main_cst_27 : FVec F S_ .f32 := constant S_ .f32 0x00000000#32
  let main_v417 : FVec F S512 .f32 := broadcastInDim S512 ![] bcast_S_S512 main_cst_27
  let main_v418 : IVec S512 1 := cmpf .oge main_v383 main_v417
  (main_v223, main_v226, main_v404, main_v406, main_v408, main_v410, main_v412, main_v414, main_v416, main_v418)

def fn_part17 {F : FTy → Type} [FloatOps F] (main_v223 : IVec S512x8x8 1) (main_v226 : IVec S65536x511 1) (main_v236 : FVec F S512 .f32) (main_v257 : FVec F S512 .f32) (main_v278 : FVec F S512 .f32) (main_v299 : FVec F S512 .f32) (main_v320 : FVec F S512 .f32) (main_v341 : FVec F S512 .f32) (main_v362 : FVec F S512 .f32) (main_v381 : FVec F S512x8x16 .f32) (main_v383 : FVec F S512 .f32) (main_v385 : FVec F S512x16 .f32) (main_v386 : FVec F S512x1 .f32) : IVec S512x8x8 1 × IVec S65536x511 1 × IVec S512 1 × IVec S512 1 × IVec S512 1 × IVec S512 1 × IVec S512 1 × IVec S512 1 × IVec S512 1 × IVec S512 1 :=
  let main_v387 : FVec F S512x16 .f32 := broadcastInDim S512x16 ![0, 1] bcast_S512x1_S512x16_0_1 main_v386
  let main_v388 : FVec F S512x16 .f32 := Host.divf main_v385 main_v387
  let main_v389 : FVec F S512x8x1 .f32 := (extractStridedSlice S512x8x1 ![0, 0, 7] · slices_S512x8x16_S512x8x1_0_0_7) main_v381
  let main_v390 : FVec F S512x8 .f32 := shapeCast S512x8 main_v389 shapeCasts_S512x8x1_S512x8
  let main_v391 : IVec S8 32 := iotaInDim S8 32 0
  let main_c_19 : IVec S_ 32 := constantI S_ 32 7#32
  let main_v392 : IVec S8 32 := broadcastInDim S8 ![] bcast_S_S8 main_c_19
  let main_v393 : IVec S8 1 := cmpi .eq main_v391 main_v392
  let main_v394 : IVec S1x8x1 1 := broadcastInDim S1x8x1 ![1] bcast_S8_S1x8x1_1 main_v393
  let main_v395 : FVec F S512x1x16 .f32 := broadcastInDim S512x1x16 ![0, 2] bcast_S512x16_S512x1x16_0_2 main_v388
  let main_v396 : FVec F S512x8x1 .f32 := broadcastInDim S512x8x1 ![0, 1] bcast_S512x8_S512x8x1_0_1 main_v390
  let main_v397 : FVec F S512x1x16 .f32 := broadcastInDim S512x1x16 ![0, 2] bcast_S512x16_S512x1x16_0_2 main_v388
  let main_v398 : FVec F S512x8x16 .f32 := broadcastInDim S512x8x16 ![0, 1, 2] bcast_S512x8x1_S512x8x16_0_1_2 main_v396
  let main_v399 : FVec F S512x8x16 .f32 := broadcastInDim S512x8x16 ![0, 1, 2] bcast_S512x1x16_S512x8x16_0_1_2 main_v397
  let main_v400 : FVec F S512x8x16 .f32 := mulf main_v398 main_v399
  let main_v401 : FVec F S512x8x16 .f32 := subf main_v381 main_v400
  let main_v402 : FVec F S512x8x16 .f32 := fn_where (F := F) main_v394 main_v395 main_v401
  let main_cst_20 : FVec F S_ .f32 := constant S_ .f32 0x00000000#32
  let main_v403 : FVec F S512 .f32 := broadcastInDim S512 ![] bcast_S_S512 main_cst_20
  let main_v404 : IVec S512 1 := cmpf .oge main_v236 main_v403
  let main_cst_21 : FVec F S_ .f32 := constant S_ .f32 0x00000000#32
  let main_v405 : FVec F S512 .f32 := broadcastInDim S512 ![] bcast_S_S512 main_cst_21
  let main_v406 : IVec S512 1 := cmpf .oge main_v257 main_v405
  let main_cst_22 : FVec F S_ .f32 := constant S_ .f32 0x00000000#32
  fn_part18 (F := F) main_v223 main_v226 main_v278 main_v299 main_v320 main_v341 main_v362 main_v383 main_v404 main_v406 main_cst_22

def fn_part16 {F : FTy → Type} [FloatOps F] (main_v223 : IVec S512x8x8 1) (main_v226 : IVec S65536x511 1) (main_v236 : FVec F S512 .f32) (main_v257 : FVec F S512 .f32) (main_v278 : FVec F S512 .f32) (main_v299 : FVec F S512 .f32) (main_v320 : FVec F S512 .f32) (main_v341 : FVec F S512 .f32) (main_v360 : FVec F S512x8x16 .f32) (main_v362 : FVec F S512 .f32) (main_v363 : FVec F S512x1x16 .f32) : IVec S512x8x8 1 × IVec S65536x511 1 × IVec S512 1 × IVec S512 1 × IVec S512 1 × IVec S512 1 × IVec S512 1 × IVec S512 1 × IVec S512 1 × IVec S512 1 :=
  let main_v364 : FVec F S512x16 .f32 := shapeCast S512x16 main_v363 shapeCasts_S512x1x16_S512x16
  let main_v365 : FVec F S512x1 .f32 := broadcastInDim S512x1 ![0] bcast_S512_S512x1_0 main_v362
  let main_v366 : FVec F S512x16 .f32 := broadcastInDim S512x16 ![0, 1] bcast_S512x1_S512x16_0_1 main_v365
  let main_v367 : FVec F S512x16 .f32 := Host.divf main_v364 main_v366
  let main_v368 : FVec F S512x8x1 .f32 := (extractStridedSlice S512x8x1 ![0, 0, 6] · slices_S512x8x16_S512x8x1_0_0_6) main_v360
  let main_v369 : FVec F S512x8 .f32 := shapeCast S512x8 main_v368 shapeCasts_S512x8x1_S512x8
  let main_v370 : IVec S8 32 := iotaInDim S8 32 0
  let main_c_18 : IVec S_ 32 := constantI S_ 32 6#32
  let main_v371 : IVec S8 32 := broadcastInDim S8 ![] bcast_S_S8 main_c_18
  let main_v372 : IVec S8 1 := cmpi .eq main_v370 main_v371
  let main_v373 : IVec S1x8x1 1 := broadcastInDim S1x8x1 ![1] bcast_S8_S1x8x1_1 main_v372
  let main_v374 : FVec F S512x1x16 .f32 := broadcastInDim S512x1x16 ![0, 2] bcast_S512x16_S512x1x16_0_2 main_v367
  let main_v375 : FVec F S512x8x1 .f32 := broadcastInDim S512x8x1 ![0, 1] bcast_S512x8_S512x8x1_0_1 main_v369
  let main_v376 : FVec F S512x1x16 .f32 := broadcastInDim S512x1x16 ![0, 2] bcast_S512x16_S512x1x16_0_2 main_v367
  let main_v377 : FVec F S512x8x16 .f32 := broadcastInDim S512x8x16 ![0, 1, 2] bcast_S512x8x1_S512x8x16_0_1_2 main_v375
  let main_v378 : FVec F S512x8x16 .f32 := broadcastInDim S512x8x16 ![0, 1, 2] bcast_S512x1x16_S512x8x16_0_1_2 main_v376
  let main_v379 : FVec F S512x8x16 .f32 := mulf main_v377 main_v378
  let main_v380 : FVec F S512x8x16 .f32 := subf main_v360 main_v379
  let main_v381 : FVec F S512x8x16 .f32 := fn_where (F := F) main_v373 main_v374 main_v380
  let main_v382 : FVec F S512x1x1 .f32 := (extractStridedSlice S512x1x1 ![0, 7, 7] · slices_S512x8x16_S512x1x1_0_7_7) main_v381
  let main_v383 : FVec F S512 .f32 := shapeCast S512 main_v382 shapeCasts_S512x1x1_S512
  let main_v384 : FVec F S512x1x16 .f32 := (extractStridedSlice S512x1x16 ![0, 7, 0] · slices_S512x8x16_S512x1x16_0_7_0) main_v381
  let main_v385 : FVec F S512x16 .f32 := shapeCast S512x16 main_v384 shapeCasts_S512x1x16_S512x16
  let main_v386 : FVec F S512x1 .f32 := broadcastInDim S512x1 ![0] bcast_S512_S512x1_0 main_v383
  fn_part17 (F := F) main_v223 main_v226 main_v236 main_v257 main_v278 main_v299 main_v320 main_v341 main_v362 main_v381 main_v383 main_v385 main_v386

def fn_part15 {F : FTy → Type} [FloatOps F] (main_v223 : IVec S512x8x8 1) (main_v226 : IVec S65536x511 1) (main_v236 : FVec F S512 .f32) (main_v257 : FVec F S512 .f32) (main_v278 : FVec F S512 .f32) (main_v299 : FVec F S512 .f32) (main_v320 : FVec F S512 .f32) (main_v339 : FVec F S512x8x16 .f32) (main_v340 : FVec F S512x1x1 .f32) : IVec S512x8x8 1 × IVec S65536x511 1 × IVec S512 1 × IVec S512 1 × IVec S512 1 × IVec S512 1 × IVec S512 1 × IVec S512 1 × IVec S512 1 × IVec S512 1 :=
  let main_v341 : FVec F S512 .f32 := shapeCast S512 main_v340 shapeCasts_S512x1x1_S512
  let main_v342 : FVec F S512x1x16 .f32 := (extractStridedSlice S512x1x16 ![0, 5, 0] · slices_S512x8x16_S512x1x16_0_5_0) main_v339
  let main_v343 : FVec F S512x16 .f32 := shapeCast S512x16 main_v342 shapeCasts_S512x1x16_S512x16
  let main_v344 : FVec F S512x1 .f32 := broadcastInDim S512x1 ![0] bcast_S512_S512x1_0 main_v341
  let main_v345 : FVec F S512x16 .f32 := broadcastInDim S512x16 ![0, 1] bcast_S512x1_S512x16_0_1 main_v344
  let main_v346 : FVec F S512x16 .f32 := Host.divf main_v343 main_v345
  let main_v347 : FVec F S512x8x1 .f32 := (extractStridedSlice S512x8x1 ![0, 0, 5] · slices_S512x8x16_S512x8x1_0_0_5) main_v339
  let main_v348 : FVec F S512x8 .f32 := shapeCast S512x8 main_v347 shapeCasts_S512x8x1_S512x8
  let main_v349 : IVec S8 32 := iotaInDim S8 32 0
  let main_c_17 : IVec S_ 32 := constantI S_ 32 5#32
  let main_v350 : IVec S8 32 := broadcastInDim S8 ![] bcast_S_S8 main_c_17
  let main_v351 : IVec S8 1 := cmpi .eq main_v349 main_v350
  let main_v352 : IVec S1x8x1 1 := broadcastInDim S1x8x1 ![1] bcast_S8_S1x8x1_1 main_v351
  let main_v353 : FVec F S512x1x16 .f32 := broadcastInDim S512x1x16 ![0, 2] bcast_S512x16_S512x1x16_0_2 main_v346
  let main_v354 : FVec F S512x8x1 .f32 := broadcastInDim S512x8x1 ![0, 1] bcast_S512x8_S512x8x1_0_1 main_v348
  let main_v355 : FVec F S512x1x16 .f32 := broadcastInDim S512x1x16 ![0, 2] bcast_S512x16_S512x1x16_0_2 main_v346
  let main_v356 : FVec F S512x8x16 .f32 := broadcastInDim S512x8x16 ![0, 1, 2] bcast_S512x8x1_S512x8x16_0_1_2 main_v354
  let main_v357 : FVec F S512x8x16 .f32 := broadcastInDim S512x8x16 ![0, 1, 2] bcast_S512x1x16_S512x8x16_0_1_2 main_v355
  let main_v358 : FVec F S512x8x16 .f32 := mulf main_v356 main_v357
  let main_v359 : FVec F S512x8x16 .f32 := subf main_v339 main_v358
  let main_v360 : FVec F S512x8x16 .f32 := fn_where (F := F) main_v352 main_v353 main_v359
  let main_v361 : FVec F S512x1x1 .f32 := (extractStridedSlice S512x1x1 ![0, 6, 6] · slices_S512x8x16_S512x1x1_0_6_6) main_v360
  let main_v362 : FVec F S512 .f32 := shapeCast S512 main_v361 shapeCasts_S512x1x1_S512
  let main_v363 : FVec F S512x1x16 .f32 := (extractStridedSlice S512x1x16 ![0, 6, 0] · slices_S512x8x16_S512x1x16_0_6_0) main_v360
  fn_part16 (F := F) main_v223 main_v226 main_v236 main_v257 main_v278 main_v299 main_v320 main_v341 main_v360 main_v362 main_v363

def fn_part14 {F : FTy → Type} [FloatOps F] (main_v223 : IVec S512x8x8 1) (main_v226 : IVec S65536x511 1) (main_v236 : FVec F S512 .f32) (main_v257 : FVec F S512 .f32) (main_v278 : FVec F S512 .f32) (main_v299 : FVec F S512 .f32) (main_v310 : IVec S1x8x1 1) (main_v311 : FVec F S512x1x16 .f32) (main_v317 : FVec F S512x8x16 .f32) : IVec S512x8x8 1 × IVec S65536x511 1 × IVec S512 1 × IVec S512 1 × IVec S512 1 × IVec S512 1 × IVec S512 1 × IVec S512 1 × IVec S512 1 × IVec S512 1 :=
  let main_v318 : FVec F S512x8x16 .f32 := fn_where (F := F) main_v310 main_v311 main_v317
  let main_v319 : FVec F S512x1x1 .f32 := (extractStridedSlice S512x1x1 ![0, 4, 4] · slices_S512x8x16_S512x1x1_0_4_4) main_v318
  let main_v320 : FVec F S512 .f32 := shapeCast S512 main_v319 shapeCasts_S512x1x1_S512
  let main_v321 : FVec F S512x1x16 .f32 := (extractStridedSlice S512x1x16 ![0, 4, 0] · slices_S512x8x16_S512x1x16_0_4_0) main_v318
  let main_v322 : FVec F S512x16 .f32 := shapeCast S512x16 main_v321 shapeCasts_S512x1x16_S512x16
  let main_v323 : FVec F S512x1 .f32 := broadcastInDim S512x1 ![0] bcast_S512_S512x1_0 main_v320
  let main_v324 : FVec F S512x16 .f32 := broadcastInDim S512x16 ![0, 1] bcast_S512x1_S512x16_0_1 main_v323
  let main_v325 : FVec F S512x16 .f32 := Host.divf main_v322 main_v324
  let main_v326 : FVec F S512x8x1 .f32 := (extractStridedSlice S512x8x1 ![0, 0, 4] · slices_S512x8x16_S512x8x1_0_0_4) main_v318
  let main_v327 : FVec F S512x8 .f32 := shapeCast S512x8 main_v326 shapeCasts_S512x8x1_S512x8
  let main_v328 : IVec S8 32 := iotaInDim S8 32 0
  let main_c_16 : IVec S_ 32 := constantI S_ 32 4#32
  let main_v329 : IVec S8 32 := broadcastInDim S8 ![] bcast_S_S8 main_c_16
  let main_v330 : IVec S8 1 := cmpi .eq main_v328 main_v329
  let main_v331 : IVec S1x8x1 1 := broadcastInDim S1x8x1 ![1] bcast_S8_S1x8x1_1 main_v330
  let main_v332 : FVec F S512x1x16 .f32 := broadcastInDim S512x1x16 ![0, 2] bcast_S512x16_S512x1x16_0_2 main_v325
  let main_v333 : FVec F S512x8x1 .f32 := broadcastInDim S512x8x1 ![0, 1] bcast_S512x8_S512x8x1_0_1 main_v327
  let main_v334 : FVec F S512x1x16 .f32 := broadcastInDim S512x1x16 ![0, 2] bcast_S512x16_S512x1x16_0_2 main_v325
  let main_v335 : FVec F S512x8x16 .f32 := broadcastInDim S512x8x16 ![0, 1, 2] bcast_S512x8x1_S512x8x16_0_1_2 main_v333
  let main_v336 : FVec F S512x8x16 .f32 := broadcastInDim S512x8x16 ![0, 1, 2] bcast_S512x1x16_S512x8x16_0_1_2 main_v334
  let main_v337 : FVec F S512x8x16 .f32 := mulf main_v335 main_v336
  let main_v338 : FVec F S512x8x16 .f32 := subf main_v318 main_v337
  let main_v339 : FVec F S512x8x16 .f32 := fn_where (F := F) main_v331 main_v332 main_v338
  let main_v340 : FVec F S512x1x1 .f32 := (extractStridedSlice S512x1x1 ![0, 5, 5] · slices_S512x8x16_S512x1x1_0_5_5) main_v339
  fn_part15 (F := F) main_v223 main_v226 main_v236 main_v257 main_v278 main_v299 main_v320 main_v339 main_v340

def fn_part13 {F : FTy → Type} [FloatOps F] (main_v223 : IVec S512x8x8 1) (main_v226 : IVec S65536x511 1) (main_v236 : FVec F S512 .f32) (main_v257 : FVec F S512 .f32) (main_v276 : FVec F S512x8x16 .f32) (main_v278 : FVec F S512 .f32) (main_v289 : IVec S1x8x1 1) (main_v290 : FVec F S512x1x16 .f32) (main_v293 : FVec F S512x8x16 .f32) (main_v294 : FVec F S512x8x16 .f32) : IVec S512x8x8 1 × IVec S65536x511 1 × IVec S512 1 × IVec S512 1 × IVec S512 1 × IVec S512 1 × IVec S512 1 × IVec S512 1 × IVec S512 1 × IVec S512 1 :=
  let main_v295 : FVec F S512x8x16 .f32 := mulf main_v293 main_v294
  let main_v296 : FVec F S512x8x16 .f32 := subf main_v276 main_v295
  let main_v297 : FVec F S512x8x16 .f32 := fn_where (F := F) main_v289 main_v290 main_v296
  let main_v298 : FVec F S512x1x1 .f32 := (extractStridedSlice S512x1x1 ![0, 3, 3] · slices_S512x8x16_S512x1x1_0_3_3) main_v297
  let main_v299 : FVec F S512 .f32 := shapeCast S512 main_v298 shapeCasts_S512x1x1_S512
  let main_v300 : FVec F S512x1x16 .f32 := (extractStridedSlice S512x1x16 ![0, 3, 0] · slices_S512x8x16_S512x1x16_0_3_0) main_v297
  let main_v301 : FVec F S512x16 .f32 := shapeCast S512x16 main_v300 shapeCasts_S512x1x16_S512x16
  let main_v302 : FVec F S512x1 .f32 := broadcastInDim S512x1 ![0] bcast_S512_S512x1_0 main_v299
  let main_v303 : FVec F S512x16 .f32 := broadcastInDim S512x16 ![0, 1] bcast_S512x1_S512x16_0_1 main_v302
  let main_v304 : FVec F S512x16 .f32 := Host.divf main_v301 main_v303
  let main_v305 : FVec F S512x8x1 .f32 := (extractStridedSlice S512x8x1 ![0, 0, 3] · slices_S512x8x16_S512x8x1_0_0_3) main_v297
  let main_v306 : FVec F S512x8 .f32 := shapeCast S512x8 main_v305 shapeCasts_S512x8x1_S512x8
  let main_v307 : IVec S8 32 := iotaInDim S8 32 0
  let main_c_15 : IVec S_ 32 := constantI S_ 32 3#32
  let main_v308 : IVec S8 32 := broadcastInDim S8 ![] bcast_S_S8 main_c_15
  let main_v309 : IVec S8 1 := cmpi .eq main_v307 main_v308
  let main_v310 : IVec S1x8x1 1 := broadcastInDim S1x8x1 ![1] bcast_S8_S1x8x1_1 main_v309
  let main_v311 : FVec F S512x1x16 .f32 := broadcastInDim S512x1x16 ![0, 2] bcast_S512x16_S512x1x16_0_2 main_v304
  let main_v312 : FVec F S512x8x1 .f32 := broadcastInDim S512x8x1 ![0, 1] bcast_S512x8_S512x8x1_0_1 main_v306
  let main_v313 : FVec F S512x1x16 .f32 := broadcastInDim S512x1x16 ![0, 2] bcast_S512x16_S512x1x16_0_2 main_v304
  let main_v314 : FVec F S512x8x16 .f32 := broadcastInDim S512x8x16 ![0, 1, 2] bcast_S512x8x1_S512x8x16_0_1_2 main_v312
  let main_v315 : FVec F S512x8x16 .f32 := broadcastInDim S512x8x16 ![0, 1, 2] bcast_S512x1x16_S512x8x16_0_1_2 main_v313
  let main_v316 : FVec F S512x8x16 .f32 := mulf main_v314 main_v315
  let main_v317 : FVec F S512x8x16 .f32 := subf main_v297 main_v316
  fn_part14 (F := F) main_v223 main_v226 main_v236 main_v257 main_v278 main_v299 main_v310 main_v311 main_v317

def fn_part12 {F : FTy → Type} [FloatOps F] (main_v223 : IVec S512x8x8 1) (main_v226 : IVec S65536x511 1) (main_v236 : FVec F S512 .f32) (main_v255 : FVec F S512x8x16 .f32) (main_v257 : FVec F S512 .f32) (main_v268 : IVec S1x8x1 1) (main_v269 : FVec F S512x1x16 .f32) (main_v270 : FVec F S512x8x1 .f32) (main_v271 : FVec F S512x1x16 .f32) : IVec S512x8x8 1 × IVec S65536x511 1 × IVec S512 1 × IVec S512 1 × IVec S512 1 × IVec S512 1 × IVec S512 1 × IVec S512 1 × IVec S512 1 × IVec S512 1 :=
  let main_v272 : FVec F S512x8x16 .f32 := broadcastInDim S512x8x16 ![0, 1, 2] bcast_S512x8x1_S512x8x16_0_1_2 main_v270
  let main_v273 : FVec F S512x8x16 .f32 := broadcastInDim S512x8x16 ![0, 1, 2] bcast_S512x1x16_S512x8x16_0_1_2 main_v271
  let main_v274 : FVec F S512x8x16 .f32 := mulf main_v272 main_v273
  let main_v275 : FVec F S512x8x16 .f32 := subf main_v255 main_v274
  let main_v276 : FVec F S512x8x16 .f32 := fn_where (F := F) main_v268 main_v269 main_v275
  let main_v277 : FVec F S512x1x1 .f32 := (extractStridedSlice S512x1x1 ![0, 2, 2] · slices_S512x8x16_S512x1x1_0_2_2) main_v276
  let main_v278 : FVec F S512 .f32 := shapeCast S512 main_v277 shapeCasts_S512x1x1_S512
  let main_v279 : FVec F S512x1x16 .f32 := (extractStridedSlice S512x1x16 ![0, 2, 0] · slices_S512x8x16_S512x1x16_0_2_0) main_v276
  let main_v280 : FVec F S512x16 .f32 := shapeCast S512x16 main_v279 shapeCasts_S512x1x16_S512x16
  let main_v281 : FVec F S512x1 .f32 := broadcastInDim S512x1 ![0] bcast_S512_S512x1_0 main_v278
  let main_v282 : FVec F S512x16 .f32 := broadcastInDim S512x16 ![0, 1] bcast_S512x1_S512x16_0_1 main_v281
  let main_v283 : FVec F S512x16 .f32 := Host.divf main_v280 main_v282
  let main_v284 : FVec F S512x8x1 .f32 := (extractStridedSlice S512x8x1 ![0, 0, 2] · slices_S512x8x16_S512x8x1_0_0_2) main_v276
  let main_v285 : FVec F S512x8 .f32 := shapeCast S512x8 main_v284 shapeCasts_S512x8x1_S512x8
  let main_v286 : IVec S8 32 := iotaInDim S8 32 0
  let main_c_14 : IVec S_ 32 := constantI S_ 32 2#32
  let main_v287 : IVec S8 32 := broadcastInDim S8 ![] bcast_S_S8 main_c_14
  let main_v288 : IVec S8 1 := cmpi .eq main_v286 main_v287
  let main_v289 : IVec S1x8x1 1 := broadcastInDim S1x8x1 ![1] bcast_S8_S1x8x1_1 main_v288
  let main_v290 : FVec F S512x1x16 .f32 := broadcastInDim S512x1x16 ![0, 2] bcast_S512x16_S512x1x16_0_2 main_v283
  let main_v291 : FVec F S512x8x1 .f32 := broadcastInDim S512x8x1 ![0, 1] bcast_S512x8_S512x8x1_0_1 main_v285
  let main_v292 : FVec F S512x1x16 .f32 := broadcastInDim S512x1x16 ![0, 2] bcast_S512x16_S512x1x16_0_2 main_v283
  let main_v293 : FVec F S512x8x16 .f32 := broadcastInDim S512x8x16 ![0, 1, 2] bcast_S512x8x1_S512x8x16_0_1_2 main_v291
  let main_v294 : FVec F S512x8x16 .f32 := broadcastInDim S512x8x16 ![0, 1, 2] bcast_S512x1x16_S512x8x16_0_1_2 main_v292
  fn_part13 (F := F) main_v223 main_v226 main_v236 main_v257 main_v276 main_v278 main_v289 main_v290 main_v293 main_v294

def fn_part11 {F : FTy → Type} [FloatOps F] (main_v223 : IVec S512x8x8 1) (main_v226 : IVec S65536x511 1) (main_v234 : FVec F S512x8x16 .f32) (main_v236 : FVec F S512 .f32) (main_v241 : FVec F S512x16 .f32) (main_v243 : FVec F S512x8 .f32) (main_v247 : IVec S1x8x1 1) (main_v248 : FVec F S512x1x16 .f32) : IVec S512x8x8 1 × IVec S65536x511 1 × IVec S512 1 × IVec S512 1 × IVec S512 1 × IVec S512 1 × IVec S512 1 × IVec S512 1 × IVec S512 1 × IVec S512 1 :=
  let main_v249 : FVec F S512x8x1 .f32 := broadcastInDim S512x8x1 ![0, 1] bcast_S512x8_S512x8x1_0_1 main_v243
  let main_v250 : FVec F S512x1x16 .f32 := broadcastInDim S512x1x16 ![0, 2] bcast_S512x16_S512x1x16_0_2 main_v241
  let main_v251 : FVec F S512x8x16 .f32 := broadcastInDim S512x8x16 ![0, 1, 2] bcast_S512x8x1_S512x8x16_0_1_2 main_v249
  let main_v252 : FVec F S512x8x16 .f32 := broadcastInDim S512x8x16 ![0, 1, 2] bcast_S512x1x16_S512x8x16_0_1_2 main_v250
  let main_v253 : FVec F S512x8x16 .f32 := mulf main_v251 main_v252
  let main_v254 : FVec F S512x8x16 .f32 := subf main_v234 main_v253
  let main_v255 : FVec F S512x8x16 .f32 := fn_where (F := F) main_v247 main_v248 main_v254
  let main_v256 : FVec F S512x1x1 .f32 := (extractStridedSlice S512x1x1 ![0, 1, 1] · slices_S512x8x16_S512x1x1_0_1_1) main_v255
  let main_v257 : FVec F S512 .f32 := shapeCast S512 main_v256 shapeCasts_S512x1x1_S512
  let main_v258 : FVec F S512x1x16 .f32 := (extractStridedSlice S512x1x16 ![0, 1, 0] · slices_S512x8x16_S512x1x16_0_1_0) main_v255
  let main_v259 : FVec F S512x16 .f32 := shapeCast S512x16 main_v258 shapeCasts_S512x1x16_S512x16
  let main_v260 : FVec F S512x1 .f32 := broadcastInDim S512x1 ![0] bcast_S512_S512x1_0 main_v257
  let main_v261 : FVec F S512x16 .f32 := broadcastInDim S512x16 ![0, 1] bcast_S512x1_S512x16_0_1 main_v260
  let main_v262 : FVec F S512x16 .f32 := Host.divf main_v259 main_v261
  let main_v263 : FVec F S512x8x1 .f32 := (extractStridedSlice S512x8x1 ![0, 0, 1] · slices_S512x8x16_S512x8x1_0_0_1) main_v255
  let main_v264 : FVec F S512x8 .f32 := shapeCast S512x8 main_v263 shapeCasts_S512x8x1_S512x8
  let main_v265 : IVec S8 32 := iotaInDim S8 32 0
  let main_c_13 : IVec S_ 32 := constantI S_ 32 1#32
  let main_v266 : IVec S8 32 := broadcastInDim S8 ![] bcast_S_S8 main_c_13
  let main_v267 : IVec S8 1 := cmpi .eq main_v265 main_v266
  let main_v268 : IVec S1x8x1 1 := broadcastInDim S1x8x1 ![1] bcast_S8_S1x8x1_1 main_v267
  let main_v269 : FVec F S512x1x16 .f32 := broadcastInDim S512x1x16 ![0, 2] bcast_S512x16_S512x1x16_0_2 main_v262
  let main_v270 : FVec F S512x8x1 .f32 := broadcastInDim S512x8x1 ![0, 1] bcast_S512x8_S512x8x1_0_1 main_v264
  let main_v271 : FVec F S512x1x16 .f32 := broadcastInDim S512x1x16 ![0, 2] bcast_S512x16_S512x1x16_0_2 main_v262
  fn_part12 (F := F) main_v223 main_v226 main_v236 main_v255 main_v257 main_v268 main_v269 main_v270 main_v271

def fn_part10 {F : FTy → Type} [FloatOps F] (main_arg2 : FVec F S512x8x8 .f32) (main_v223 : IVec S512x8x8 1) (main_v226 : IVec S65536x511 1) : IVec S512x8x8 1 × IVec S65536x511 1 × IVec S512 1 × IVec S512 1 × IVec S512 1 × IVec S512 1 × IVec S512 1 × IVec S512 1 × IVec S512 1 × IVec S512 1 :=
  let main_v227 : IVec S8x8 32 := iotaInDim S8x8 32 0
  let main_v228 : IVec S8x8 32 := iotaInDim S8x8 32 1
  let main_c_11 : IVec S_ 32 := constantI S_ 32 0#32
  let main_v229 : IVec S8x8 32 := broadcastInDim S8x8 ![] bcast_S_S8x8 main_c_11
  let main_v230 : IVec S8x8 32 := addi main_v227 main_v229
  let main_v231 : IVec S8x8 1 := cmpi .eq main_v230 main_v228
  let main_v232 : FVec F S8x8 .f32 := uitofp .f32 main_v231
  let main_v233 : FVec F S512x8x8 .f32 := broadcastInDim S512x8x8 ![1, 2] bcast_S8x8_S512x8x8_1_2 main_v232
  let main_v234 : FVec F S512x8x16 .f32 := (fun a b => concatenate S512x8x16 2 [⟨S512x8x8, a⟩, ⟨S512x8x8, b⟩] concatenates_S512x8x8_S512x8x8_S512x8x16_d2) main_arg2 main_v233
  let main_v235 : FVec F S512x1x1 .f32 := (extractStridedSlice S512x1x1 ![0, 0, 0] · slices_S512x8x16_S512x1x1_0_0_0) main_v234
  let main_v236 : FVec F S512 .f32 := shapeCast S512 main_v235 shapeCasts_S512x1x1_S512
  let main_v237 : FVec F S512x1x16 .f32 := (extractStridedSlice S512x1x16 ![0, 0, 0] · slices_S512x8x16_S512x1x16_0_0_0) main_v234
  let main_v238 : FVec F S512x16 .f32 := shapeCast S512x16 main_v237 shapeCasts_S512x1x16_S512x16
  let main_v239 : FVec F S512x1 .f32 := broadcastInDim S512x1 ![0] bcast_S512_S512x1_0 main_v236
  let main_v240 : FVec F S512x16 .f32 := broadcastInDim S512x16 ![0, 1] bcast_S512x1_S512x16_0_1 main_v239
  let main_v241 : FVec F S512x16 .f32 := Host.divf main_v238 main_v240
  let main_v242 : FVec F S512x8x1 .f32 := (extractStridedSlice S512x8x1 ![0, 0, 0] · slices_S512x8x16_S512x8x1_0_0_0) main_v234
  let main_v243 : FVec F S512x8 .f32 := shapeCast S512x8 main_v242 shapeCasts_S512x8x1_S512x8
  let main_v244 : IVec S8 32 := iotaInDim S8 32 0
  let main_c_12 : IVec S_ 32 := constantI S_ 32 0#32
  let main_v245 : IVec S8 32 := broadcastInDim S8 ![] bcast_S_S8 main_c_12
  let main_v246 : IVec S8 1 := cmpi .eq main_v244 main_v245
  let main_v247 : IVec S1x8x1 1 := broadcastInDim S1x8x1 ![1] bcast_S8_S1x8x1_1 main_v246
  let main_v248 : FVec F S512x1x16 .f32 := broadcastInDim S512x1x16 ![0, 2] bcast_S512x16_S512x1x16_0_2 main_v241
  fn_part11 (F := F) main_v223 main_v226 main_v234 main_v236 main_v241 main_v243 main_v247 main_v248

def fn_part9 {F : FTy → Type} [FloatOps F] (main_arg1 : FVec F S512x8 .f32) (main_arg2 : FVec F S512x8x8 .f32) (main_v176 : FVec F S512x8x8 .f32) (main_v201 : FVec F S512 .f32) (main_v203 : FVec F S65536x512 .f32) (main_v205 : FVec F S65536x512 .f32) : IVec S512x8x8 1 × IVec S65536x511 1 × IVec S512 1 × IVec S512 1 × IVec S512 1 × IVec S512 1 × IVec S512 1 × IVec S512 1 × IVec S512 1 × IVec S512 1 :=
  let main_v206 : FVec F S512x8 .f32 := (fun l r => Host.dotGeneral dot_S512x8_S512x8x8_S512x8_1_1_n_2_0_0 none l r) main_arg1 main_v176
  let main_v207 : FVec F S512 .f32 := (fun l r => Host.dotGeneral dot_S512x8_S512x8_S512_1_1_n_n_0_0 none l r) main_arg1 main_v206
  let main_cst_8 : FVec F S_ .f32 := constant S_ .f32 0x40000000#32
  let main_v208 : FVec F S65536x512 .f32 := broadcastInDim S65536x512 ![] bcast_S_S65536x512 main_cst_8
  let main_v209 : FVec F S65536x512 .f32 := mulf main_v208 main_v205
  let main_v210 : FVec F S65536x512 .f32 := subf main_v203 main_v209
  let main_v211 : FVec F S1x512 .f32 := broadcastInDim S1x512 ![1] bcast_S512_S1x512_1 main_v207
  let main_v212 : FVec F S65536x512 .f32 := broadcastInDim S65536x512 ![0, 1] bcast_S1x512_S65536x512_0_1 main_v211
  let main_v213 : FVec F S65536x512 .f32 := addf main_v210 main_v212
  let main_v214 : FVec F S1x512 .f32 := broadcastInDim S1x512 ![1] bcast_S512_S1x512_1 main_v201
  let main_v215 : FVec F S65536x512 .f32 := broadcastInDim S65536x512 ![0, 1] bcast_S1x512_S65536x512_0_1 main_v214
  let main_v216 : FVec F S65536x512 .f32 := addf main_v213 main_v215
  let main_cst_9 : FVec F S_ .f32 := constant S_ .f32 0x416B3F8E#32
  let main_v217 : FVec F S65536x512 .f32 := broadcastInDim S65536x512 ![] bcast_S_S65536x512 main_cst_9
  let main_v218 : FVec F S65536x512 .f32 := addf main_v216 main_v217
  let main_cst_10 : FVec F S_ .f32 := constant S_ .f32 0x3F000000#32
  let main_v219 : FVec F S65536x512 .f32 := broadcastInDim S65536x512 ![] bcast_S_S65536x512 main_cst_10
  let main_v220 : FVec F S65536x512 .f32 := mulf main_v219 main_v218
  let main_v221 : FVec F S65536x512 .f32 := fn_sort (F := F) main_v220
  let main_v222 : FVec F S512x8x8 .f32 := (transpose S512x8x8 [0, 2, 1] · transposes_S512x8x8_S512x8x8_0_2_1) main_arg2
  let main_v223 : IVec S512x8x8 1 := cmpf .oeq main_arg2 main_v222
  let main_v224 : FVec F S65536x511 .f32 := (extractStridedSlice S65536x511 ![0, 0] · slices_S65536x512_S65536x511_0_0) main_v221
  let main_v225 : FVec F S65536x511 .f32 := (extractStridedSlice S65536x511 ![0, 1] · slices_S65536x512_S65536x511_0_1) main_v221
  let main_v226 : IVec S65536x511 1 := cmpf .olt main_v224 main_v225
  fn_part10 (F := F) main_arg2 main_v223 main_v226

def fn_part8 {F : FTy → Type} [FloatOps F] (main_arg0 : FVec F S65536x8 .f32) (main_arg1 : FVec F S512x8 .f32) (main_arg2 : FVec F S512x8x8 .f32) (main_v51 : FVec F S512 .f32) (main_v72 : FVec F S512 .f32) (main_v93 : FVec F S512 .f32) (main_v114 : FVec F S512 .f32) (main_v135 : FVec F S512 .f32) (main_v156 : FVec F S512 .f32) (main_v176 : FVec F S512x8x8 .f32) (main_v180 : FVec F S512 .f32) (main_v181 : FVec F S512 .f32) : IVec S512x8x8 1 × IVec S65536x511 1 × IVec S512 1 × IVec S512 1 × IVec S512 1 × IVec S512 1 × IVec S512 1 × IVec S512 1 × IVec S512 1 × IVec S512 1 :=
  let main_v182 : FVec F S512 .f32 := Host.log main_v181
  let main_v183 : FVec F S512 .f32 := addf main_v180 main_v182
  let main_v184 : FVec F S512 .f32 := Host.absf main_v51
  let main_v185 : FVec F S512 .f32 := Host.log main_v184
  let main_v186 : FVec F S512 .f32 := addf main_v183 main_v185
  let main_v187 : FVec F S512 .f32 := Host.absf main_v72
  let main_v188 : FVec F S512 .f32 := Host.log main_v187
  let main_v189 : FVec F S512 .f32 := addf main_v186 main_v188
  let main_v190 : FVec F S512 .f32 := Host.absf main_v93
  let main_v191 : FVec F S512 .f32 := Host.log main_v190
  let main_v192 : FVec F S512 .f32 := addf main_v189 main_v191
  let main_v193 : FVec F S512 .f32 := Host.absf main_v114
  let main_v194 : FVec F S512 .f32 := Host.log main_v193
  let main_v195 : FVec F S512 .f32 := addf main_v192 main_v194
  let main_v196 : FVec F S512 .f32 := Host.absf main_v135
  let main_v197 : FVec F S512 .f32 := Host.log main_v196
  let main_v198 : FVec F S512 .f32 := addf main_v195 main_v197
  let main_v199 : FVec F S512 .f32 := Host.absf main_v156
  let main_v200 : FVec F S512 .f32 := Host.log main_v199
  let main_v201 : FVec F S512 .f32 := addf main_v198 main_v200
  let main_v202 : FVec F S65536x512x8 .f32 := (fun l r => Host.dotGeneral dot_S65536x8_S512x8x8_S65536x512x8_1_1_0_02_n_n none l r) main_arg0 main_v176
  let main_v203 : FVec F S65536x512 .f32 := (fun l r => Host.dotGeneral dot_S65536x512x8_S65536x8_S65536x512_2_1_1_n_0_0 none l r) main_v202 main_arg0
  let main_v204 : FVec F S512x8 .f32 := (fun l r => Host.dotGeneral dot_S512x8x8_S512x8_S512x8_2_1_1_n_0_0 none l r) main_v176 main_arg1
  let main_v205 : FVec F S65536x512 .f32 := (fun l r => Host.dotGeneral dot_S65536x8_S512x8_S65536x512_1_1_0_0_n_n none l r) main_arg0 main_v204
  fn_part9 (F := F) main_arg1 main_arg2 main_v176 main_v201 main_v203 main_v205

def fn_part7 {F : FTy → Type} [FloatOps F] (main_arg0 : FVec F S65536x8 .f32) (main_arg1 : FVec F S512x8 .f32) (main_arg2 : FVec F S512x8x8 .f32) (main_v9 : FVec F S512 .f32) (main_v30 : FVec F S512 .f32) (main_v51 : FVec F S512 .f32) (main_v72 : FVec F S512 .f32) (main_v93 : FVec F S512 .f32) (main_v114 : FVec F S512 .f32) (main_v135 : FVec F S512 .f32) (main_v154 : FVec F S512x8x16 .f32) (main_v156 : FVec F S512 .f32) (main_v158 : FVec F S512x16 .f32) (main_v159 : FVec F S512x1 .f32) : IVec S512x8x8 1 × IVec S65536x511 1 × IVec S512 1 × IVec S512 1 × IVec S512 1 × IVec S512 1 × IVec S512 1 × IVec S512 1 × IVec S512 1 × IVec S512 1 :=
  let main_v160 : FVec F S512x16 .f32 := broadcastInDim S512x16 ![0, 1] bcast_S512x1_S512x16_0_1 main_v159
  let main_v161 : FVec F S512x16 .f32 := Host.divf main_v158 main_v160
  let main_v162 : FVec F S512x8x1 .f32 := (extractStridedSlice S512x8x1 ![0, 0, 7] · slices_S512x8x16_S512x8x1_0_0_7) main_v154
  let main_v163 : FVec F S512x8 .f32 := shapeCast S512x8 main_v162 shapeCasts_S512x8x1_S512x8
  let main_v164 : IVec S8 32 := iotaInDim S8 32 0
  let main_c_7 : IVec S_ 32 := constantI S_ 32 7#32
  let main_v165 : IVec S8 32 := broadcastInDim S8 ![] bcast_S_S8 main_c_7
  let main_v166 : IVec S8 1 := cmpi .eq main_v164 main_v165
  let main_v167 : IVec S1x8x1 1 := broadcastInDim S1x8x1 ![1] bcast_S8_S1x8x1_1 main_v166
  let main_v168 : FVec F S512x1x16 .f32 := broadcastInDim S512x1x16 ![0, 2] bcast_S512x16_S512x1x16_0_2 main_v161
  let main_v169 : FVec F S512x8x1 .f32 := broadcastInDim S512x8x1 ![0, 1] bcast_S512x8_S512x8x1_0_1 main_v163
  let main_v170 : FVec F S512x1x16 .f32 := broadcastInDim S512x1x16 ![0, 2] bcast_S512x16_S512x1x16_0_2 main_v161
  let main_v171 : FVec F S512x8x16 .f32 := broadcastInDim S512x8x16 ![0, 1, 2] bcast_S512x8x1_S512x8x16_0_1_2 main_v169
  let main_v172 : FVec F S512x8x16 .f32 := broadcastInDim S512x8x16 ![0, 1, 2] bcast_S512x1x16_S512x8x16_0_1_2 main_v170
  let main_v173 : FVec F S512x8x16 .f32 := mulf main_v171 main_v172
  let main_v174 : FVec F S512x8x16 .f32 := subf main_v154 main_v173
  let main_v175 : FVec F S512x8x16 .f32 := fn_where (F := F) main_v167 main_v168 main_v174
  let main_v176 : FVec F S512x8x8 .f32 := (extractStridedSlice S512x8x8 ![0, 0, 8] · slices_S512x8x16_S512x8x8_0_0_8) main_v175
  let main_v177 : FVec F S512 .f32 := Host.absf main_v9
  let main_v178 : FVec F S512 .f32 := Host.log main_v177
  let main_cst : FVec F S_ .f32 := constant S_ .f32 0x00000000#32
  let main_v179 : FVec F S512 .f32 := broadcastInDim S512 ![] bcast_S_S512 main_cst
  let main_v180 : FVec F S512 .f32 := addf main_v179 main_v178
  let main_v181 : FVec F S512 .f32 := Host.absf main_v30
  fn_part8 (F := F) main_arg0 main_arg1 main_arg2 main_v51 main_v72 main_v93 main_v114 main_v135 main_v156 main_v176 main_v180 main_v181

def fn_part6 {F : FTy → Type} [FloatOps F] (main_arg0 : FVec F S65536x8 .f32) (main_arg1 : FVec F S512x8 .f32) (main_arg2 : FVec F S512x8x8 .f32) (main_v9 : FVec F S512 .f32) (main_v30 : FVec F S512 .f32) (main_v51 : FVec F S512 .f32) (main_v72 : FVec F S512 .f32) (main_v93 : FVec F S512 .f32) (main_v114 : FVec F S512 .f32) (main_v133 : FVec F S512x8x16 .f32) (main_v135 : FVec F S512 .f32) (main_v136 : FVec F S512x1x16 .f32) : IVec S512x8x8 1 × IVec S65536x511 1 × IVec S512 1 × IVec S512 1 × IVec S512 1 × IVec S512 1 × IVec S512 1 × IVec S512 1 × IVec S512 1 × IVec S512 1 :=
  let main_v137 : FVec F S512x16 .f32 := shapeCast S512x16 main_v136 shapeCasts_S512x1x16_S512x16
  let main_v138 : FVec F S512x1 .f32 := broadcastInDim S512x1 ![0] bcast_S512_S512x1_0 main_v135
  let main_v139 : FVec F S512x16 .f32 := broadcastInDim S512x16 ![0, 1] bcast_S512x1_S512x16_0_1 main_v138
  let main_v140 : FVec F S512x16 .f32 := Host.divf main_v137 main_v139
  let main_v141 : FVec F S512x8x1 .f32 := (extractStridedSlice S512x8x1 ![0, 0, 6] · slices_S512x8x16_S512x8x1_0_0_6) main_v133
  let main_v142 : FVec F S512x8 .f32 := shapeCast S512x8 main_v141 shapeCasts_S512x8x1_S512x8
  let main_v143 : IVec S8 32 := iotaInDim S8 32 0
  let main_c_6 : IVec S_ 32 := constantI S_ 32 6#32
  let main_v144 : IVec S8 32 := broadcastInDim S8 ![] bcast_S_S8 main_c_6
  let main_v145 : IVec S8 1 := cmpi .eq main_v143 main_v144
  let main_v146 : IVec S1x8x1 1 := broadcastInDim S1x8x1 ![1] bcast_S8_S1x8x1_1 main_v145
  let main_v147 : FVec F S512x1x16 .f32 := broadcastInDim S512x1x16 ![0, 2] bcast_S512x16_S512x1x16_0_2 main_v140
  let main_v148 : FVec F S512x8x1 .f32 := broadcastInDim S512x8x1 ![0, 1] bcast_S512x8_S512x8x1_0_1 main_v142
  let main_v149 : FVec F S512x1x16 .f32 := broadcastInDim S512x1x16 ![0, 2] bcast_S512x16_S512x1x16_0_2 main_v140
  let main_v150 : FVec F S512x8x16 .f32 := broadcastInDim S512x8x16 ![0, 1, 2] bcast_S512x8x1_S512x8x16_0_1_2 main_v148
  let main_v151 : FVec F S512x8x16 .f32 := broadcastInDim S512x8x16 ![0, 1, 2] bcast_S512x1x16_S512x8x16_0_1_2 main_v149
  let main_v152 : FVec F S512x8x16 .f32 := mulf main_v150 main_v151
  let main_v153 : FVec F S512x8x16 .f32 := subf main_v133 main_v152
  let main_v154 : FVec F S512x8x16 .f32 := fn_where (F := F) main_v146 main_v147 main_v153
  let main_v155 : FVec F S512x1x1 .f32 := (extractStridedSlice S512x1x1 ![0, 7, 7] · slices_S512x8x16_S512x1x1_0_7_7) main_v154
  let main_v156 : FVec F S512 .f32 := shapeCast S512 main_v155 shapeCasts_S512x1x1_S512
  let main_v157 : FVec F S512x1x16 .f32 := (extractStridedSlice S512x1x16 ![0, 7, 0] · slices_S512x8x16_S512x1x16_0_7_0) main_v154
  let main_v158 : FVec F S512x16 .f32 := shapeCast S512x16 main_v157 shapeCasts_S512x1x16_S512x16
  let main_v159 : FVec F S512x1 .f32 := broadcastInDim S512x1 ![0] bcast_S512_S512x1_0 main_v156
  fn_part7 (F := F) main_arg0 main_arg1 main_arg2 main_v9 main_v30 main_v51 main_v72 main_v93 main_v114 main_v135 main_v154 main_v156 main_v158 main_v159

def fn_part5 {F : FTy → Type} [FloatOps F] (main_arg0 : FVec F S65536x8 .f32) (main_arg1 : FVec F S512x8 .f32) (main_arg2 : FVec F S512x8x8 .f32) (main_v9 : FVec F S512 .f32) (main_v30 : FVec F S512 .f32) (main_v51 : FVec F S512 .f32) (main_v72 : FVec F S512 .f32) (main_v93 : FVec F S512 .f32) (main_v112 : FVec F S512x8x16 .f32) (main_v113 : FVec F S512x1x1 .f32) : IVec S512x8x8 1 × IVec S65536x511 1 × IVec S512 1 × IVec S512 1 × IVec S512 1 × IVec S512 1 × IVec S512 1 × IVec S512 1 × IVec S512 1 × IVec S512 1 :=
  let main_v114 : FVec F S512 .f32 := shapeCast S512 main_v113 shapeCasts_S512x1x1_S512
  let main_v115 : FVec F S512x1x16 .f32 := (extractStridedSlice S512x1x16 ![0, 5, 0] · slices_S512x8x16_S512x1x16_0_5_0) main_v112
  let main_v116 : FVec F S512x16 .f32 := shapeCast S512x16 main_v115 shapeCasts_S512x1x16_S512x16
  let main_v117 : FVec F S512x1 .f32 := broadcastInDim S512x1 ![0] bcast_S512_S512x1_0 main_v114
  let main_v118 : FVec F S512x16 .f32 := broadcastInDim S512x16 ![0, 1] bcast_S512x1_S512x16_0_1 main_v117
  let main_v119 : FVec F S512x16 .f32 := Host.divf main_v116 main_v118
  let main_v120 : FVec F S512x8x1 .f32 := (extractStridedSlice S512x8x1 ![0, 0, 5] · slices_S512x8x16_S512x8x1_0_0_5) main_v112
  let main_v121 : FVec F S512x8 .f32 := shapeCast S512x8 main_v120 shapeCasts_S512x8x1_S512x8
  let main_v122 : IVec S8 32 := iotaInDim S8 32 0
  let main_c_5 : IVec S_ 32 := constantI S_ 32 5#32
  let main_v123 : IVec S8 32 := broadcastInDim S8 ![] bcast_S_S8 main_c_5
  let main_v124 : IVec S8 1 := cmpi .eq main_v122 main_v123
  let main_v125 : IVec S1x8x1 1 := broadcastInDim S1x8x1 ![1] bcast_S8_S1x8x1_1 main_v124
  let main_v126 : FVec F S512x1x16 .f32 := broadcastInDim S512x1x16 ![0, 2] bcast_S512x16_S512x1x16_0_2 main_v119
  let main_v127 : FVec F S512x8x1 .f32 := broadcastInDim S512x8x1 ![0, 1] bcast_S512x8_S512x8x1_0_1 main_v121
  let main_v128 : FVec F S512x1x16 .f32 := broadcastInDim S512x1x16 ![0, 2] bcast_S512x16_S512x1x16_0_2 main_v119
  let main_v129 : FVec F S512x8x16 .f32 := broadcastInDim S512x8x16 ![0, 1, 2] bcast_S512x8x1_S512x8x16_0_1_2 main_v127
  let main_v130 : FVec F S512x8x16 .f32 := broadcastInDim S512x8x16 ![0, 1, 2] bcast_S512x1x16_S512x8x16_0_1_2 main_v128
  let main_v131 : FVec F S512x8x16 .f32 := mulf main_v129 main_v130
  let main_v132 : FVec F S512x8x16 .f32 := subf main_v112 main_v131
  let main_v133 : FVec F S512x8x16 .f32 := fn_where (F := F) main_v125 main_v126 main_v132
  let main_v134 : FVec F S512x1x1 .f32 := (extractStridedSlice S512x1x1 ![0, 6, 6] · slices_S512x8x16_S512x1x1_0_6_6) main_v133
  let main_v135 : FVec F S512 .f32 := shapeCast S512 main_v134 shapeCasts_S512x1x1_S512
  let main_v136 : FVec F S512x1x16 .f32 := (extractStridedSlice S512x1x16 ![0, 6, 0] · slices_S512x8x16_S512x1x16_0_6_0) main_v133
  fn_part6 (F := F) main_arg0 main_arg1 main_arg2 main_v9 main_v30 main_v51 main_v72 main_v93 main_v114 main_v133 main_v135 main_v136

def fn_part4 {F : FTy → Type} [FloatOps F] (main_arg0 : FVec F S65536x8 .f32) (main_arg1 : FVec F S512x8 .f32) (main_arg2 : FVec F S512x8x8 .f32) (main_v9 : FVec F S512 .f32) (main_v30 : FVec F S512 .f32) (main_v51 : FVec F S512 .f32) (main_v72 : FVec F S512 .f32) (main_v83 : IVec S1x8x1 1) (main_v84 : FVec F S512x1x16 .f32) (main_v90 : FVec F S512x8x16 .f32) : IVec S512x8x8 1 × IVec S65536x511 1 × IVec S512 1 × IVec S512 1 × IVec S512 1 × IVec S512 1 × IVec S512 1 × IVec S512 1 × IVec S512 1 × IVec S512 1 :=
  let main_v91 : FVec F S512x8x16 .f32 := fn_where (F := F) main_v83 main_v84 main_v90
  let main_v92 : FVec F S512x1x1 .f32 := (extractStridedSlice S512x1x1 ![0, 4, 4] · slices_S512x8x16_S512x1x1_0_4_4) main_v91
  let main_v93 : FVec F S512 .f32 := shapeCast S512 main_v92 shapeCasts_S512x1x1_S512
  let main_v94 : FVec F S512x1x16 .f32 := (extractStridedSlice S512x1x16 ![0, 4, 0] · slices_S512x8x16_S512x1x16_0_4_0) main_v91
  let main_v95 : FVec F S512x16 .f32 := shapeCast S512x16 main_v94 shapeCasts_S512x1x16_S512x16
  let main_v96 : FVec F S512x1 .f32 := broadcastInDim S512x1 ![0] bcast_S512_S512x1_0 main_v93
  let main_v97 : FVec F S512x16 .f32 := broadcastInDim S512x16 ![0, 1] bcast_S512x1_S512x16_0_1 main_v96
  let main_v98 : FVec F S512x16 .f32 := Host.divf main_v95 main_v97
  let main_v99 : FVec F S512x8x1 .f32 := (extractStridedSlice S512x8x1 ![0, 0, 4] · slices_S512x8x16_S512x8x1_0_0_4) main_v91
  let main_v100 : FVec F S512x8 .f32 := shapeCast S512x8 main_v99 shapeCasts_S512x8x1_S512x8
  let main_v101 : IVec S8 32 := iotaInDim S8 32 0
  let main_c_4 : IVec S_ 32 := constantI S_ 32 4#32
  let main_v102 : IVec S8 32 := broadcastInDim S8 ![] bcast_S_S8 main_c_4
  let main_v103 : IVec S8 1 := cmpi .eq main_v101 main_v102
  let main_v104 : IVec S1x8x1 1 := broadcastInDim S1x8x1 ![1] bcast_S8_S1x8x1_1 main_v103
  let main_v105 : FVec F S512x1x16 .f32 := broadcastInDim S512x1x16 ![0, 2] bcast_S512x16_S512x1x16_0_2 main_v98
  let main_v106 : FVec F S512x8x1 .f32 := broadcastInDim S512x8x1 ![0, 1] bcast_S512x8_S512x8x1_0_1 main_v100
  let main_v107 : FVec F S512x1x16 .f32 := broadcastInDim S512x1x16 ![0, 2] bcast_S512x16_S512x1x16_0_2 main_v98
  let main_v108 : FVec F S512x8x16 .f32 := broadcastInDim S512x8x16 ![0, 1, 2] bcast_S512x8x1_S512x8x16_0_1_2 main_v106
  let main_v109 : FVec F S512x8x16 .f32 := broadcastInDim S512x8x16 ![0, 1, 2] bcast_S512x1x16_S512x8x16_0_1_2 main_v107
  let main_v110 : FVec F S512x8x16 .f32 := mulf main_v108 main_v109
  let main_v111 : FVec F S512x8x16 .f32 := subf main_v91 main_v110
  let main_v112 : FVec F S512x8x16 .f32 := fn_where (F := F) main_v104 main_v105 main_v111
  let main_v113 : FVec F S512x1x1 .f32 := (extractStridedSlice S512x1x1 ![0, 5, 5] · slices_S512x8x16_S512x1x1_0_5_5) main_v112
  fn_part5 (F := F) main_arg0 main_arg1 main_arg2 main_v9 main_v30 main_v51 main_v72 main_v93 main_v112 main_v113

def fn_part3 {F : FTy → Type} [FloatOps F] (main_arg0 : FVec F S65536x8 .f32) (main_arg1 : FVec F S512x8 .f32) (main_arg2 : FVec F S512x8x8 .f32) (main_v9 : FVec F S512 .f32) (main_v30 : FVec F S512 .f32) (main_v49 : FVec F S512x8x16 .f32) (main_v51 : FVec F S512 .f32) (main_v62 : IVec S1x8x1 1) (main_v63 : FVec F S512x1x16 .f32) (main_v66 : FVec F S512x8x16 .f32) (main_v67 : FVec F S512x8x16 .f32) : IVec S512x8x8 1 × IVec S65536x511 1 × IVec S512 1 × IVec S512 1 × IVec S512 1 × IVec S512 1 × IVec S512 1 × IVec S512 1 × IVec S512 1 × IVec S512 1 :=
  let main_v68 : FVec F S512x8x16 .f32 := mulf main_v66 main_v67
  let main_v69 : FVec F S512x8x16 .f32 := subf main_v49 main_v68
  let main_v70 : FVec F S512x8x16 .f32 := fn_where (F := F) main_v62 main_v63 main_v69
  let main_v71 : FVec F S512x1x1 .f32 := (extractStridedSlice S512x1x1 ![0, 3, 3] · slices_S512x8x16_S512x1x1_0_3_3) main_v70
  let main_v72 : FVec F S512 .f32 := shapeCast S512 main_v71 shapeCasts_S512x1x1_S512
  let main_v73 : FVec F S512x1x16 .f32 := (extractStridedSlice S512x1x16 ![0, 3, 0] · slices_S512x8x16_S512x1x16_0_3_0) main_v70
  let main_v74 : FVec F S512x16 .f32 := shapeCast S512x16 main_v73 shapeCasts_S512x1x16_S512x16
  let main_v75 : FVec F S512x1 .f32 := broadcastInDim S512x1 ![0] bcast_S512_S512x1_0 main_v72
  let main_v76 : FVec F S512x16 .f32 := broadcastInDim S512x16 ![0, 1] bcast_S512x1_S512x16_0_1 main_v75
  let main_v77 : FVec F S512x16 .f32 := Host.divf main_v74 main_v76
  let main_v78 : FVec F S512x8x1 .f32 := (extractStridedSlice S512x8x1 ![0, 0, 3] · slices_S512x8x16_S512x8x1_0_0_3) main_v70
  let main_v79 : FVec F S512x8 .f32 := shapeCast S512x8 main_v78 shapeCasts_S512x8x1_S512x8
  let main_v80 : IVec S8 32 := iotaInDim S8 32 0
  let main_c_3 : IVec S_ 32 := constantI S_ 32 3#32
  let main_v81 : IVec S8 32 := broadcastInDim S8 ![] bcast_S_S8 main_c_3
  let main_v82 : IVec S8 1 := cmpi .eq main_v80 main_v81
  let main_v83 : IVec S1x8x1 1 := broadcastInDim S1x8x1 ![1] bcast_S8_S1x8x1_1 main_v82
  let main_v84 : FVec F S512x1x16 .f32 := broadcastInDim S512x1x16 ![0, 2] bcast_S512x16_S512x1x16_0_2 main_v77
  let main_v85 : FVec F S512x8x1 .f32 := broadcastInDim S512x8x1 ![0, 1] bcast_S512x8_S512x8x1_0_1 main_v79
  let main_v86 : FVec F S512x1x16 .f32 := broadcastInDim S512x1x16 ![0, 2] bcast_S512x16_S512x1x16_0_2 main_v77
  let main_v87 : FVec F S512x8x16 .f32 := broadcastInDim S512x8x16 ![0, 1, 2] bcast_S512x8x1_S512x8x16_0_1_2 main_v85
  let main_v88 : FVec F S512x8x16 .f32 := broadcastInDim S512x8x16 ![0, 1, 2] bcast_S512x1x16_S512x8x16_0_1_2 main_v86
  let main_v89 : FVec F S512x8x16 .f32 := mulf main_v87 main_v88
  let main_v90 : FVec F S512x8x16 .f32 := subf main_v70 main_v89
  fn_part4 (F := F) main_arg0 main_arg1 main_arg2 main_v9 main_v30 main_v51 main_v72 main_v83 main_v84 main_v90

def fn_part2 {F : FTy → Type} [FloatOps F] (main_arg0 : FVec F S65536x8 .f32) (main_arg1 : FVec F S512x8 .f32) (main_arg2 : FVec F S512x8x8 .f32) (main_v9 : FVec F S512 .f32) (main_v28 : FVec F S512x8x16 .f32) (main_v30 : FVec F S512 .f32) (main_v41 : IVec S1x8x1 1) (main_v42 : FVec F S512x1x16 .f32) (main_v43 : FVec F S512x8x1 .f32) (main_v44 : FVec F S512x1x16 .f32) : IVec S512x8x8 1 × IVec S65536x511 1 × IVec S512 1 × IVec S512 1 × IVec S512 1 × IVec S512 1 × IVec S512 1 × IVec S512 1 × IVec S512 1 × IVec S512 1 :=
  let main_v45 : FVec F S512x8x16 .f32 := broadcastInDim S512x8x16 ![0, 1, 2] bcast_S512x8x1_S512x8x16_0_1_2 main_v43
  let main_v46 : FVec F S512x8x16 .f32 := broadcastInDim S512x8x16 ![0, 1, 2] bcast_S512x1x16_S512x8x16_0_1_2 main_v44
  let main_v47 : FVec F S512x8x16 .f32 := mulf main_v45 main_v46
  let main_v48 : FVec F S512x8x16 .f32 := subf main_v28 main_v47
  let main_v49 : FVec F S512x8x16 .f32 := fn_where (F := F) main_v41 main_v42 main_v48
  let main_v50 : FVec F S512x1x1 .f32 := (extractStridedSlice S512x1x1 ![0, 2, 2] · slices_S512x8x16_S512x1x1_0_2_2) main_v49
  let main_v51 : FVec F S512 .f32 := shapeCast S512 main_v50 shapeCasts_S512x1x1_S512
  let main_v52 : FVec F S512x1x16 .f32 := (extractStridedSlice S512x1x16 ![0, 2, 0] · slices_S512x8x16_S512x1x16_0_2_0) main_v49
  let main_v53 : FVec F S512x16 .f32 := shapeCast S512x16 main_v52 shapeCasts_S512x1x16_S512x16
  let main_v54 : FVec F S512x1 .f32 := broadcastInDim S512x1 ![0] bcast_S512_S512x1_0 main_v51
  let main_v55 : FVec F S512x16 .f32 := broadcastInDim S512x16 ![0, 1] bcast_S512x1_S512x16_0_1 main_v54
  let main_v56 : FVec F S512x16 .f32 := Host.divf main_v53 main_v55
  let main_v57 : FVec F S512x8x1 .f32 := (extractStridedSlice S512x8x1 ![0, 0, 2] · slices_S512x8x16_S512x8x1_0_0_2) main_v49
  let main_v58 : FVec F S512x8 .f32 := shapeCast S512x8 main_v57 shapeCasts_S512x8x1_S512x8
  let main_v59 : IVec S8 32 := iotaInDim S8 32 0
  let main_c_2 : IVec S_ 32 := constantI S_ 32 2#32
  let main_v60 : IVec S8 32 := broadcastInDim S8 ![] bcast_S_S8 main_c_2
  let main_v61 : IVec S8 1 := cmpi .eq main_v59 main_v60
  let main_v62 : IVec S1x8x1 1 := broadcastInDim S1x8x1 ![1] bcast_S8_S1x8x1_1 main_v61
  let main_v63 : FVec F S512x1x16 .f32 := broadcastInDim S512x1x16 ![0, 2] bcast_S512x16_S512x1x16_0_2 main_v56
  let main_v64 : FVec F S512x8x1 .f32 := broadcastInDim S512x8x1 ![0, 1] bcast_S512x8_S512x8x1_0_1 main_v58
  let main_v65 : FVec F S512x1x16 .f32 := broadcastInDim S512x1x16 ![0, 2] bcast_S512x16_S512x1x16_0_2 main_v56
  let main_v66 : FVec F S512x8x16 .f32 := broadcastInDim S512x8x16 ![0, 1, 2] bcast_S512x8x1_S512x8x16_0_1_2 main_v64
  let main_v67 : FVec F S512x8x16 .f32 := broadcastInDim S512x8x16 ![0, 1, 2] bcast_S512x1x16_S512x8x16_0_1_2 main_v65
  fn_part3 (F := F) main_arg0 main_arg1 main_arg2 main_v9 main_v30 main_v49 main_v51 main_v62 main_v63 main_v66 main_v67

def fn_part1 {F : FTy → Type} [FloatOps F] (main_arg0 : FVec F S65536x8 .f32) (main_arg1 : FVec F S512x8 .f32) (main_arg2 : FVec F S512x8x8 .f32) (main_v7 : FVec F S512x8x16 .f32) (main_v9 : FVec F S512 .f32) (main_v14 : FVec F S512x16 .f32) (main_v16 : FVec F S512x8 .f32) (main_v20 : IVec S1x8x1 1) (main_v21 : FVec F S512x1x16 .f32) : IVec S512x8x8 1 × IVec S65536x511 1 × IVec S512 1 × IVec S512 1 × IVec S512 1 × IVec S512 1 × IVec S512 1 × IVec S512 1 × IVec S512 1 × IVec S512 1 :=
  let main_v22 : FVec F S512x8x1 .f32 := broadcastInDim S512x8x1 ![0, 1] bcast_S512x8_S512x8x1_0_1 main_v16
  let main_v23 : FVec F S512x1x16 .f32 := broadcastInDim S512x1x16 ![0, 2] bcast_S512x16_S512x1x16_0_2 main_v14
  let main_v24 : FVec F S512x8x16 .f32 := broadcastInDim S512x8x16 ![0, 1, 2] bcast_S512x8x1_S512x8x16_0_1_2 main_v22
  let main_v25 : FVec F S512x8x16 .f32 := broadcastInDim S512x8x16 ![0, 1, 2] bcast_S512x1x16_S512x8x16_0_1_2 main_v23
  let main_v26 : FVec F S512x8x16 .f32 := mulf main_v24 main_v25
  let main_v27 : FVec F S512x8x16 .f32 := subf main_v7 main_v26
  let main_v28 : FVec F S512x8x16 .f32 := fn_where (F := F) main_v20 main_v21 main_v27
  let main_v29 : FVec F S512x1x1 .f32 := (extractStridedSlice S512x1x1 ![0, 1, 1] · slices_S512x8x16_S512x1x1_0_1_1) main_v28
  let main_v30 : FVec F S512 .f32 := shapeCast S512 main_v29 shapeCasts_S512x1x1_S512
  let main_v31 : FVec F S512x1x16 .f32 := (extractStridedSlice S512x1x16 ![0, 1, 0] · slices_S512x8x16_S512x1x16_0_1_0) main_v28
  let main_v32 : FVec F S512x16 .f32 := shapeCast S512x16 main_v31 shapeCasts_S512x1x16_S512x16
  let main_v33 : FVec F S512x1 .f32 := broadcastInDim S512x1 ![0] bcast_S512_S512x1_0 main_v30
  let main_v34 : FVec F S512x16 .f32 := broadcastInDim S512x16 ![0, 1] bcast_S512x1_S512x16_0_1 main_v33
  let main_v35 : FVec F S512x16 .f32 := Host.divf main_v32 main_v34
  let main_v36 : FVec F S512x8x1 .f32 := (extractStridedSlice S512x8x1 ![0, 0, 1] · slices_S512x8x16_S512x8x1_0_0_1) main_v28
  let main_v37 : FVec F S512x8 .f32 := shapeCast S512x8 main_v36 shapeCasts_S512x8x1_S512x8
  let main_v38 : IVec S8 32 := iotaInDim S8 32 0
  let main_c_1 : IVec S_ 32 := constantI S_ 32 1#32
  let main_v39 : IVec S8 32 := broadcastInDim S8 ![] bcast_S_S8 main_c_1
  let main_v40 : IVec S8 1 := cmpi .eq main_v38 main_v39
  let main_v41 : IVec S1x8x1 1 := broadcastInDim S1x8x1 ![1] bcast_S8_S1x8x1_1 main_v40
  let main_v42 : FVec F S512x1x16 .f32 := broadcastInDim S512x1x16 ![0, 2] bcast_S512x16_S512x1x16_0_2 main_v35
  let main_v43 : FVec F S512x8x1 .f32 := broadcastInDim S512x8x1 ![0, 1] bcast_S512x8_S512x8x1_0_1 main_v37
  let main_v44 : FVec F S512x1x16 .f32 := broadcastInDim S512x1x16 ![0, 2] bcast_S512x16_S512x1x16_0_2 main_v35
  fn_part2 (F := F) main_arg0 main_arg1 main_arg2 main_v9 main_v28 main_v30 main_v41 main_v42 main_v43 main_v44

def fn {F : FTy → Type} [FloatOps F] (main_arg0 : FVec F S65536x8 .f32) (main_arg1 : FVec F S512x8 .f32) (main_arg2 : FVec F S512x8x8 .f32) : IVec S512x8x8 1 × IVec S65536x511 1 × IVec S512 1 × IVec S512 1 × IVec S512 1 × IVec S512 1 × IVec S512 1 × IVec S512 1 × IVec S512 1 × IVec S512 1 :=
  let main_v0 : IVec S8x8 32 := iotaInDim S8x8 32 0
  let main_v1 : IVec S8x8 32 := iotaInDim S8x8 32 1
  let main_c : IVec S_ 32 := constantI S_ 32 0#32
  let main_v2 : IVec S8x8 32 := broadcastInDim S8x8 ![] bcast_S_S8x8 main_c
  let main_v3 : IVec S8x8 32 := addi main_v0 main_v2
  let main_v4 : IVec S8x8 1 := cmpi .eq main_v3 main_v1
  let main_v5 : FVec F S8x8 .f32 := uitofp .f32 main_v4
  let main_v6 : FVec F S512x8x8 .f32 := broadcastInDim S512x8x8 ![1, 2] bcast_S8x8_S512x8x8_1_2 main_v5
  let main_v7 : FVec F S512x8x16 .f32 := (fun a b => concatenate S512x8x16 2 [⟨S512x8x8, a⟩, ⟨S512x8x8, b⟩] concatenates_S512x8x8_S512x8x8_S512x8x16_d2) main_arg2 main_v6
  let main_v8 : FVec F S512x1x1 .f32 := (extractStridedSlice S512x1x1 ![0, 0, 0] · slices_S512x8x16_S512x1x1_0_0_0) main_v7
  let main_v9 : FVec F S512 .f32 := shapeCast S512 main_v8 shapeCasts_S512x1x1_S512
  let main_v10 : FVec F S512x1x16 .f32 := (extractStridedSlice S512x1x16 ![0, 0, 0] · slices_S512x8x16_S512x1x16_0_0_0) main_v7
  let main_v11 : FVec F S512x16 .f32 := shapeCast S512x16 main_v10 shapeCasts_S512x1x16_S512x16
  let main_v12 : FVec F S512x1 .f32 := broadcastInDim S512x1 ![0] bcast_S512_S512x1_0 main_v9
  let main_v13 : FVec F S512x16 .f32 := broadcastInDim S512x16 ![0, 1] bcast_S512x1_S512x16_0_1 main_v12
  let main_v14 : FVec F S512x16 .f32 := Host.divf main_v11 main_v13
  let main_v15 : FVec F S512x8x1 .f32 := (extractStridedSlice S512x8x1 ![0, 0, 0] · slices_S512x8x16_S512x8x1_0_0_0) main_v7
  let main_v16 : FVec F S512x8 .f32 := shapeCast S512x8 main_v15 shapeCasts_S512x8x1_S512x8
  let main_v17 : IVec S8 32 := iotaInDim S8 32 0
  let main_c_0 : IVec S_ 32 := constantI S_ 32 0#32
  let main_v18 : IVec S8 32 := broadcastInDim S8 ![] bcast_S_S8 main_c_0
  let main_v19 : IVec S8 1 := cmpi .eq main_v17 main_v18
  let main_v20 : IVec S1x8x1 1 := broadcastInDim S1x8x1 ![1] bcast_S8_S1x8x1_1 main_v19
  let main_v21 : FVec F S512x1x16 .f32 := broadcastInDim S512x1x16 ![0, 2] bcast_S512x16_S512x1x16_0_2 main_v14
  fn_part1 (F := F) main_arg0 main_arg1 main_arg2 main_v7 main_v9 main_v14 main_v16 main_v20 main_v21
-- ==== Kernel.lean ====
abbrev S65536x8 : Shape := ⟨2, ![65536, 8]⟩
abbrev S512x8 : Shape := ⟨2, ![512, 8]⟩
abbrev S512x8x8 : Shape := ⟨3, ![512, 8, 8]⟩
abbrev S8x8x512 : Shape := ⟨3, ![8, 8, 512]⟩
abbrev S64x512 : Shape := ⟨2, ![64, 512]⟩
abbrev S8x512 : Shape := ⟨2, ![8, 512]⟩
abbrev S65536x512 : Shape := ⟨2, ![65536, 512]⟩
abbrev S1x1 : Shape := ⟨2, ![1, 1]⟩
abbrev S_ : Shape := ⟨0, ![]⟩
abbrev S256x8 : Shape := ⟨2, ![256, 8]⟩
abbrev S256x512 : Shape := ⟨2, ![256, 512]⟩
abbrev S2x512 : Shape := ⟨2, ![2, 512]⟩
abbrev S1x512 : Shape := ⟨2, ![1, 512]⟩
abbrev S512 : Shape := ⟨1, ![512]⟩
abbrev S8x64 : Shape := ⟨2, ![8, 64]⟩
abbrev S256x64 : Shape := ⟨2, ![256, 64]⟩
abbrev S256x511 : Shape := ⟨2, ![256, 511]⟩
abbrev S256x1 : Shape := ⟨2, ![256, 1]⟩
abbrev S256x510 : Shape := ⟨2, ![256, 510]⟩
abbrev S256x2 : Shape := ⟨2, ![256, 2]⟩
abbrev S256x508 : Shape := ⟨2, ![256, 508]⟩
abbrev S256x4 : Shape := ⟨2, ![256, 4]⟩
abbrev S256x504 : Shape := ⟨2, ![256, 504]⟩
abbrev S256x496 : Shape := ⟨2, ![256, 496]⟩
abbrev S256x16 : Shape := ⟨2, ![256, 16]⟩
abbrev S256x480 : Shape := ⟨2, ![256, 480]⟩
abbrev S256x32 : Shape := ⟨2, ![256, 32]⟩
abbrev S256x448 : Shape := ⟨2, ![256, 448]⟩
abbrev S256x384 : Shape := ⟨2, ![256, 384]⟩
abbrev S256x128 : Shape := ⟨2, ![256, 128]⟩
abbrev S256x256 : Shape := ⟨2, ![256, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 15
  | .vmem => 9
  | .smem => 1
  | _ => 0

abbrev bufTy : (tb : Table) → Fin (tcTables nBuf tb) → BufTy
  | .hbm, ⟨0, _⟩ => ⟨S65536x8, .f32⟩
  | .hbm, ⟨1, _⟩ => ⟨S512x8, .f32⟩
  | .hbm, ⟨2, _⟩ => ⟨S512x8x8, .f32⟩
  | .hbm, ⟨3, _⟩ => ⟨S8x8x512, .f32⟩
  | .hbm, ⟨4, _⟩ => ⟨S64x512, .f32⟩
  | .hbm, ⟨5, _⟩ => ⟨S8x512, .f32⟩
  | .hbm, ⟨6, _⟩ => ⟨S65536x512, .i32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x8, .f32⟩
  | .local _ .vmem, ⟨1, _⟩ => ⟨S256x8, .f32⟩
  | .local _ .vmem, ⟨2, _⟩ => ⟨S64x512, .f32⟩
  | .local _ .vmem, ⟨3, _⟩ => ⟨S8x512, .f32⟩
  | .local _ .vmem, ⟨4, _⟩ => ⟨S256x512, .i32⟩
  | .local _ .vmem, ⟨5, _⟩ => ⟨S256x512, .i32⟩
  | .local _ .vmem, ⟨6, _⟩ => ⟨S64x512, .f32⟩
  | .local _ .vmem, ⟨7, _⟩ => ⟨S8x512, .f32⟩
  | .local _ .vmem, ⟨8, _⟩ => ⟨S2x512, .f32⟩
  | .local _ .smem, ⟨0, _⟩ => ⟨S1x1, .f32⟩
  | _, _ => ⟨S65536x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_call0_v3_1 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_cst_0 : Ref sig .tc := ⟨.hbm, 11, rfl⟩
abbrev main_call0_v6 : Ref sig .tc := ⟨.hbm, 12, rfl⟩
abbrev main_call0_cst_1 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S65536x8 : Shape := ⟨2, ![65536, 8]⟩
abbrev S512x8 : Shape := ⟨2, ![512, 8]⟩
abbrev S512x8x8 : Shape := ⟨3, ![512, 8, 8]⟩
abbrev S8x8 : Shape := ⟨2, ![8, 8]⟩
abbrev S_ : Shape := ⟨0, ![]⟩
abbrev S512x8x16 : Shape := ⟨3, ![512, 8, 16]⟩
abbrev S512x1x1 : Shape := ⟨3, ![512, 1, 1]⟩
abbrev S512 : Shape := ⟨1, ![512]⟩
abbrev S512x1x16 : Shape := ⟨3, ![512, 1, 16]⟩
abbrev S512x16 : Shape := ⟨2, ![512, 16]⟩
abbrev S512x1 : Shape := ⟨2, ![512, 1]⟩
abbrev S512x8x1 : Shape := ⟨3, ![512, 8, 1]⟩
abbrev S8 : Shape := ⟨1, ![8]⟩
abbrev S1x8x1 : Shape := ⟨3, ![1, 8, 1]⟩
abbrev S65536x512x8 : Shape := ⟨3, ![65536, 512, 8]⟩
abbrev S65536x512 : Shape := ⟨2, ![65536, 512]⟩
abbrev S1x512 : Shape := ⟨2, ![1, 512]⟩
abbrev S65536x512x1 : Shape := ⟨3, ![65536, 512, 1]⟩
abbrev S1 : Shape := ⟨1, ![1]⟩
abbrev S1x1x1 : Shape := ⟨3, ![1, 1, 1]⟩
abbrev S65536x1 : Shape := ⟨2, ![65536, 1]⟩
abbrev S65536 : Shape := ⟨1, ![65536]⟩

abbrev nBuf : Space → Nat
  | .hbm => 284
  | .vmem => 0
  | .smem => 0
  | _ => 0

abbrev hbmTy0_0 (i : Nat) : BufTy := match i % 128 with
  | 0 => ⟨S65536x8, .f32⟩
  | 1 => ⟨S512x8, .f32⟩
  | 2 => ⟨S512x8x8, .f32⟩
  | 3 => ⟨S8x8, .i32⟩
  | 4 => ⟨S8x8, .i32⟩
  | 5 => ⟨S_, .i32⟩
  | 6 => ⟨S8x8, .i32⟩
  | 7 => ⟨S8x8, .i32⟩
  | 8 => ⟨S8x8, .i1⟩
  | 9 => ⟨S8x8, .f32⟩
  | 10 => ⟨S512x8x8, .f32⟩
  | 11 => ⟨S512x8x16, .f32⟩
  | 12 => ⟨S512x1x1, .f32⟩
  | 13 => ⟨S512, .f32⟩
  | 14 => ⟨S512x1x16, .f32⟩
  | 15 => ⟨S512x16, .f32⟩
  | 16 => ⟨S512x1, .f32⟩
  | 17 => ⟨S512x16, .f32⟩
  | 18 => ⟨S512x16, .f32⟩
  | 19 => ⟨S512x8x1, .f32⟩
  | 20 => ⟨S512x8, .f32⟩
  | 21 => ⟨S8, .i32⟩
  | 22 => ⟨S_, .i32⟩
  | 23 => ⟨S8, .i32⟩
  | 24 => ⟨S8, .i1⟩
  | 25 => ⟨S1x8x1, .i1⟩
  | 26 => ⟨S512x1x16, .f32⟩
  | 27 => ⟨S512x8x1, .f32⟩
  | 28 => ⟨S512x1x16, .f32⟩
  | 29 => ⟨S512x8x16, .f32⟩
  | 30 => ⟨S512x8x16, .f32⟩
  | 31 => ⟨S512x8x16, .f32⟩
  | 32 => ⟨S512x8x16, .f32⟩
  | 33 => ⟨S512x8x16, .i1⟩
  | 34 => ⟨S512x8x16, .f32⟩
  | 35 => ⟨S512x8x16, .f32⟩
  | 36 => ⟨S512x1x1, .f32⟩
  | 37 => ⟨S512, .f32⟩
  | 38 => ⟨S512x1x16, .f32⟩
  | 39 => ⟨S512x16, .f32⟩
  | 40 => ⟨S512x1, .f32⟩
  | 41 => ⟨S512x16, .f32⟩
  | 42 => ⟨S512x16, .f32⟩
  | 43 => ⟨S512x8x1, .f32⟩
  | 44 => ⟨S512x8, .f32⟩
  | 45 => ⟨S8, .i32⟩
  | 46 => ⟨S_, .i32⟩
  | 47 => ⟨S8, .i32⟩
  | 48 => ⟨S8, .i1⟩
  | 49 => ⟨S1x8x1, .i1⟩
  | 50 => ⟨S512x1x16, .f32⟩
  | 51 => ⟨S512x8x1, .f32⟩
  | 52 => ⟨S512x1x16, .f32⟩
  | 53 => ⟨S512x8x16, .f32⟩
  | 54 => ⟨S512x8x16, .f32⟩
  | 55 => ⟨S512x8x16, .f32⟩
  | 56 => ⟨S512x8x16, .f32⟩
  | 57 => ⟨S512x8x16, .i1⟩
  | 58 => ⟨S512x8x16, .f32⟩
  | 59 => ⟨S512x8x16, .f32⟩
  | 60 => ⟨S512x1x1, .f32⟩
  | 61 => ⟨S512, .f32⟩
  | 62 => ⟨S512x1x16, .f32⟩
  | 63 => ⟨S512x16, .f32⟩
  | 64 => ⟨S512x1, .f32⟩
  | 65 => ⟨S512x16, .f32⟩
  | 66 => ⟨S512x16, .f32⟩
  | 67 => ⟨S512x8x1, .f32⟩
  | 68 => ⟨S512x8, .f32⟩
  | 69 => ⟨S8, .i32⟩
  | 70 => ⟨S_, .i32⟩
  | 71 => ⟨S8, .i32⟩
  | 72 => ⟨S8, .i1⟩
  | 73 => ⟨S1x8x1, .i1⟩
  | 74 => ⟨S512x1x16, .f32⟩
  | 75 => ⟨S512x8x1, .f32⟩
  | 76 => ⟨S512x1x16, .f32⟩
  | 77 => ⟨S512x8x16, .f32⟩
  | 78 => ⟨S512x8x16, .f32⟩
  | 79 => ⟨S512x8x16, .f32⟩
  | 80 => ⟨S512x8x16, .f32⟩
  | 81 => ⟨S512x8x16, .i1⟩
  | 82 => ⟨S512x8x16, .f32⟩
  | 83 => ⟨S512x8x16, .f32⟩
  | 84 => ⟨S512x1x1, .f32⟩
  | 85 => ⟨S512, .f32⟩
  | 86 => ⟨S512x1x16, .f32⟩
  | 87 => ⟨S512x16, .f32⟩
  | 88 => ⟨S512x1, .f32⟩
  | 89 => ⟨S512x16, .f32⟩
  | 90 => ⟨S512x16, .f32⟩
  | 91 => ⟨S512x8x1, .f32⟩
  | 92 => ⟨S512x8, .f32⟩
  | 93 => ⟨S8, .i32⟩
  | 94 => ⟨S_, .i32⟩
  | 95 => ⟨S8, .i32⟩
  | 96 => ⟨S8, .i1⟩
  | 97 => ⟨S1x8x1, .i1⟩
  | 98 => ⟨S512x1x16, .f32⟩
  | 99 => ⟨S512x8x1, .f32⟩
  | 100 => ⟨S512x1x16, .f32⟩
  | 101 => ⟨S512x8x16, .f32⟩
  | 102 => ⟨S512x8x16, .f32⟩
  | 103 => ⟨S512x8x16, .f32⟩
  | 104 => ⟨S512x8x16, .f32⟩
  | 105 => ⟨S512x8x16, .i1⟩
  | 106 => ⟨S512x8x16, .f32⟩
  | 107 => ⟨S512x8x16, .f32⟩
  | 108 => ⟨S512x1x1, .f32⟩
  | 109 => ⟨S512, .f32⟩
  | 110 => ⟨S512x1x16, .f32⟩
  | 111 => ⟨S512x16, .f32⟩
  | 112 => ⟨S512x1, .f32⟩
  | 113 => ⟨S512x16, .f32⟩
  | 114 => ⟨S512x16, .f32⟩
  | 115 => ⟨S512x8x1, .f32⟩
  | 116 => ⟨S512x8, .f32⟩
  | 117 => ⟨S8, .i32⟩
  | 118 => ⟨S_, .i32⟩
  | 119 => ⟨S8, .i32⟩
  | 120 => ⟨S8, .i1⟩
  | 121 => ⟨S1x8x1, .i1⟩
  | 122 => ⟨S512x1x16, .f32⟩
  | 123 => ⟨S512x8x1, .f32⟩
  | 124 => ⟨S512x1x16, .f32⟩
  | 125 => ⟨S512x8x16, .f32⟩
  | 126 => ⟨S512x8x16, .f32⟩
  | 127 => ⟨S512x8x16, .f32⟩
  | _ => ⟨S65536x8, .f32⟩

abbrev hbmTy0_1 (i : Nat) : BufTy := match i % 128 with
  | 0 => ⟨S512x8x16, .f32⟩
  | 1 => ⟨S512x8x16, .i1⟩
  | 2 => ⟨S512x8x16, .f32⟩
  | 3 => ⟨S512x8x16, .f32⟩
  | 4 => ⟨S512x1x1, .f32⟩
  | 5 => ⟨S512, .f32⟩
  | 6 => ⟨S512x1x16, .f32⟩
  | 7 => ⟨S512x16, .f32⟩
  | 8 => ⟨S512x1, .f32⟩
  | 9 => ⟨S512x16, .f32⟩
  | 10 => ⟨S512x16, .f32⟩
  | 11 => ⟨S512x8x1, .f32⟩
  | 12 => ⟨S512x8, .f32⟩
  | 13 => ⟨S8, .i32⟩
  | 14 => ⟨S_, .i32⟩
  | 15 => ⟨S8, .i32⟩
  | 16 => ⟨S8, .i1⟩
  | 17 => ⟨S1x8x1, .i1⟩
  | 18 => ⟨S512x1x16, .f32⟩
  | 19 => ⟨S512x8x1, .f32⟩
  | 20 => ⟨S512x1x16, .f32⟩
  | 21 => ⟨S512x8x16, .f32⟩
  | 22 => ⟨S512x8x16, .f32⟩
  | 23 => ⟨S512x8x16, .f32⟩
  | 24 => ⟨S512x8x16, .f32⟩
  | 25 => ⟨S512x8x16, .i1⟩
  | 26 => ⟨S512x8x16, .f32⟩
  | 27 => ⟨S512x8x16, .f32⟩
  | 28 => ⟨S512x1x1, .f32⟩
  | 29 => ⟨S512, .f32⟩
  | 30 => ⟨S512x1x16, .f32⟩
  | 31 => ⟨S512x16, .f32⟩
  | 32 => ⟨S512x1, .f32⟩
  | 33 => ⟨S512x16, .f32⟩
  | 34 => ⟨S512x16, .f32⟩
  | 35 => ⟨S512x8x1, .f32⟩
  | 36 => ⟨S512x8, .f32⟩
  | 37 => ⟨S8, .i32⟩
  | 38 => ⟨S_, .i32⟩
  | 39 => ⟨S8, .i32⟩
  | 40 => ⟨S8, .i1⟩
  | 41 => ⟨S1x8x1, .i1⟩
  | 42 => ⟨S512x1x16, .f32⟩
  | 43 => ⟨S512x8x1, .f32⟩
  | 44 => ⟨S512x1x16, .f32⟩
  | 45 => ⟨S512x8x16, .f32⟩
  | 46 => ⟨S512x8x16, .f32⟩
  | 47 => ⟨S512x8x16, .f32⟩
  | 48 => ⟨S512x8x16, .f32⟩
  | 49 => ⟨S512x8x16, .i1⟩
  | 50 => ⟨S512x8x16, .f32⟩
  | 51 => ⟨S512x8x16, .f32⟩
  | 52 => ⟨S512x1x1, .f32⟩
  | 53 => ⟨S512, .f32⟩
  | 54 => ⟨S512x1x16, .f32⟩
  | 55 => ⟨S512x16, .f32⟩
  | 56 => ⟨S512x1, .f32⟩
  | 57 => ⟨S512x16, .f32⟩
  | 58 => ⟨S512x16, .f32⟩
  | 59 => ⟨S512x8x1, .f32⟩
  | 60 => ⟨S512x8, .f32⟩
  | 61 => ⟨S8, .i32⟩
  | 62 => ⟨S_, .i32⟩
  | 63 => ⟨S8, .i32⟩
  | 64 => ⟨S8, .i1⟩
  | 65 => ⟨S1x8x1, .i1⟩
  | 66 => ⟨S512x1x16, .f32⟩
  | 67 => ⟨S512x8x1, .f32⟩
  | 68 => ⟨S512x1x16, .f32⟩
  | 69 => ⟨S512x8x16, .f32⟩
  | 70 => ⟨S512x8x16, .f32⟩
  | 71 => ⟨S512x8x16, .f32⟩
  | 72 => ⟨S512x8x16, .f32⟩
  | 73 => ⟨S512x8x16, .i1⟩
  | 74 => ⟨S512x8x16, .f32⟩
  | 75 => ⟨S512x8x16, .f32⟩
  | 76 => ⟨S512x8x8, .f32⟩
  | 77 => ⟨S512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S512, .f32⟩
  | 102 => ⟨S512, .f32⟩
  | 103 => ⟨S65536x512x8, .f32⟩
  | 104 => ⟨S65536x512, .f32⟩
  | 105 => ⟨S512x8, .f32⟩
  | 106 => ⟨S65536x512, .f32⟩
  | 107 => ⟨S512x8, .f32⟩
  | 108 => ⟨S512, .f32⟩
  | 109 => ⟨S_, .f32⟩
  | 110 => ⟨S65536x512, .f32⟩
  | 111 => ⟨S65536x512, .f32⟩
  | 112 => ⟨S65536x512, .f32⟩
  | 113 => ⟨S1x512, .f32⟩
  | 114 => ⟨S65536x512, .f32⟩
  | 115 => ⟨S65536x512, .f32⟩
  | 116 => ⟨S1x512, .f32⟩
  | 117 => ⟨S65536x512, .f32⟩
  | 118 => ⟨S65536x512, .f32⟩
  | 119 => ⟨S_, .f32⟩
  | 120 => ⟨S65536x512, .f32⟩
  | 121 => ⟨S65536x512, .f32⟩
  | 122 => ⟨S_, .f32⟩
  | 123 => ⟨S65536x512, .f32⟩
  | 124 => ⟨S65536x512, .f32⟩
  | 125 => ⟨S65536x512, .i32⟩
  | 126 => ⟨S65536x512, .f32⟩
  | 127 => ⟨S65536x512, .i32⟩
  | _ => ⟨S65536x8, .f32⟩

abbrev hbmTy0_2 (i : Nat) : BufTy := match i % 128 with
  | 0 => ⟨S_, .i32⟩
  | 1 => ⟨S65536x512, .i32⟩
  | 2 => ⟨S65536x512, .i1⟩
  | 3 => ⟨S_, .i32⟩
  | 4 => ⟨S65536x512, .i32⟩
  | 5 => ⟨S65536x512, .i32⟩
  | 6 => ⟨S65536x512, .i32⟩
  | 7 => ⟨S65536x512x1, .i32⟩
  | 8 => ⟨S1, .i32⟩
  | 9 => ⟨S_, .i32⟩
  | 10 => ⟨S65536x512x1, .i32⟩
  | 11 => ⟨S65536x512x1, .i1⟩
  | 12 => ⟨S1x1x1, .i32⟩
  | 13 => ⟨S65536x512x1, .i32⟩
  | 14 => ⟨S65536x512x1, .i1⟩
  | 15 => ⟨S65536x512x1, .i1⟩
  | 16 => ⟨S_, .i1⟩
  | 17 => ⟨S65536x512, .i1⟩
  | 18 => ⟨S65536x512, .f32⟩
  | 19 => ⟨S_, .f32⟩
  | 20 => ⟨S65536x512, .f32⟩
  | 21 => ⟨S65536x512, .f32⟩
  | 22 => ⟨S65536x1, .f32⟩
  | 23 => ⟨S65536, .f32⟩
  | 24 => ⟨S_, .f32⟩
  | 25 => ⟨S_, .f32⟩
  | 26 => ⟨S_, .f32⟩
  | 27 => ⟨S_, .f32⟩
  | _ => ⟨S65536x8, .f32⟩

abbrev hbmTy (i : Nat) : BufTy := match i / 128 with
  | 0 => hbmTy0_0 i
  | 1 => hbmTy0_1 i
  | 2 => hbmTy0_2 i
  | _ => ⟨S65536x8, .f32⟩

abbrev bufTy : (tb : Table) → Fin (tcTables nBuf tb) → BufTy
  | .hbm, ⟨i, _⟩ => hbmTy i
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_call1_v0 : Ref sig .tc := ⟨.hbm, 57, rfl⟩
abbrev main_call1_v1 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_c_2 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_call2_v0 : Ref sig .tc := ⟨.hbm, 81, rfl⟩
abbrev main_call2_v1 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_c_3 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_call3_v0 : Ref sig .tc := ⟨.hbm, 105, rfl⟩
abbrev main_call3_v1 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_c_4 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_call4_v0 : Ref sig .tc := ⟨.hbm, 129, rfl⟩
abbrev main_call4_v1 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_c_5 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_call5_v0 : Ref sig .tc := ⟨.hbm, 153, rfl⟩
abbrev main_call5_v1 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_c_6 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_call6_v0 : Ref sig .tc := ⟨.hbm, 177, rfl⟩
abbrev main_call6_v1 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_c_7 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_call7_v0 : Ref sig .tc := ⟨.hbm, 201, rfl⟩
abbrev main_call7_v1 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_cst : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_cst_8 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_cst_9 : Ref sig .tc := ⟨.hbm, 247, rfl⟩
abbrev main_v217 : Ref sig .tc := ⟨.hbm, 248, rfl⟩
abbrev main_v218 : Ref sig .tc := ⟨.hbm, 249, rfl⟩
abbrev main_cst_10 : Ref sig .tc := ⟨.hbm, 250, rfl⟩
abbrev main_v219 : Ref sig .tc := ⟨.hbm, 251, rfl⟩
abbrev main_v220 : Ref sig .tc := ⟨.hbm, 252, rfl⟩
abbrev main_call8_v0 : Ref sig .tc := ⟨.hbm, 253, rfl⟩
abbrev main_call8_v1_0 : Ref sig .tc := ⟨.hbm, 254, rfl⟩
abbrev main_v221 : Ref sig .tc := ⟨.hbm, 255, rfl⟩
abbrev main_call9_c : Ref sig .tc := ⟨.hbm, 256, rfl⟩
abbrev main_call9_v0 : Ref sig .tc := ⟨.hbm, 257, rfl⟩
abbrev main_call9_v1 : Ref sig .tc := ⟨.hbm, 258, rfl⟩
abbrev main_call9_c_0 : Ref sig .tc := ⟨.hbm, 259, rfl⟩
abbrev main_call9_v2 : Ref sig .tc := ⟨.hbm, 260, rfl⟩
abbrev main_call9_v3 : Ref sig .tc := ⟨.hbm, 261, rfl⟩
abbrev main_call9_v4 : Ref sig .tc := ⟨.hbm, 262, rfl⟩
abbrev main_call9_v5 : Ref sig .tc := ⟨.hbm, 263, rfl⟩
abbrev main_call9_c_1 : Ref sig .tc := ⟨.hbm, 264, rfl⟩
abbrev main_call9_c_2 : Ref sig .tc := ⟨.hbm, 265, rfl⟩
abbrev main_call9_v6 : Ref sig .tc := ⟨.hbm, 266, rfl⟩
abbrev main_call9_v7 : Ref sig .tc := ⟨.hbm, 267, rfl⟩
abbrev main_call9_v8 : Ref sig .tc := ⟨.hbm, 268, rfl⟩
abbrev main_call9_v9 : Ref sig .tc := ⟨.hbm, 269, rfl⟩
abbrev main_call9_v10 : Ref sig .tc := ⟨.hbm, 270, rfl⟩
abbrev main_call9_v11 : Ref sig .tc := ⟨.hbm, 271, rfl⟩
abbrev main_call9_c_3 : Ref sig .tc := ⟨.hbm, 272, rfl⟩
abbrev main_call9_v12 : Ref sig .tc := ⟨.hbm, 273, rfl⟩
abbrev main_call9_v13 : Ref sig .tc := ⟨.hbm, 274, rfl⟩
abbrev main_call9_cst : Ref sig .tc := ⟨.hbm, 275, rfl⟩
abbrev main_call9_v14 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_cst_11 : Ref sig .tc := ⟨.hbm, 280, rfl⟩
abbrev main_v225 : Ref sig .tc := ⟨.hbm, 281, rfl⟩
abbrev main_cst_12 : Ref sig .tc := ⟨.hbm, 282, rfl⟩
abbrev main_v226 : Ref sig .tc := ⟨.hbm, 283, rfl⟩

abbrev nD : Nat := 1
abbrev τ : Topo := Topo.v7x

variable {F : FTy → Type} [FloatOps F]
-- ==== Proof.Prep.lean ====
/- The codebook's preparation: the triangular factor of each covariance, its inverse, the product with the centre. Written
   once over any arithmetic: the kernel's vectors of 512 lanes and the real numbers are two of them. -/
module

public import proofs.«01_k».proof.Proof.Gen.KernelIdeal.Skeleton

@[expose] public section

set_option maxRecDepth 16384

noncomputable section

namespace Cert.Proof

open Idealize.ShloMosaic Idealize.ShloMosaic.TcCoe Cert.KernelIdeal Cert.KernelIdeal.Gen

/-- The operations the preparation is made of. -/
structure Arith (R : Type) where
  add : R → R → R
  sub : R → R → R
  mul : R → R → R
  div : R → R → R
  sqrt : R → R
  log : R → R
  round : R → R
  zero : R
  one : R
  two : R

namespace Arith

variable {R : Type} (o : Arith R)

/-- `f a + f (a + 1) + … + f (a + n)`, added first to last. -/
def total (f : Nat → R) (a n : Nat) : R := (List.range n).foldl (fun t m => o.add t (f (a + 1 + m))) (f a)

/-- What is left of `V i j` once the first `n` columns of the factor are taken off. -/
def rest (V L : Nat → Nat → R) (n i j : Nat) : R :=
  (List.range n).foldl (fun t m => o.sub t (o.mul (L i m) (L j m))) (V i j)

/-- The first `n` columns of the triangular factor of `V`. -/
def factor (V : Nat → Nat → R) : Nat → Nat → Nat → R
  | 0, _, _ => o.zero
  | n + 1, i, j =>
    if j = n then
      (if i = n then o.sqrt (o.rest V (factor V n) n n n)
       else o.mul (o.rest V (factor V n) n i n) (o.div o.one (o.sqrt (o.rest V (factor V n) n n n))))
    else factor V n i j

/-- The reciprocal of the factor's diagonal. -/
def recip (L : Nat → Nat → R) (j : Nat) : R := o.div o.one (L j j)

/-- The first `n` rows of the inverse of the factor `L`. -/
def lower (L : Nat → Nat → R) : Nat → Nat → Nat → R
  | 0, _, _ => o.zero
  | n + 1, i, j =>
    if i = n then
      (if j = n then o.recip L n
       else o.mul (o.sub o.zero (o.total (fun m => o.mul (L n m) (lower L n m j)) j (n - 1 - j))) (o.recip L n))
    else lower L n i j

/-- The entry of the inverse at row `d` and column `e`, `d ≤ e`: the product of the two columns of the factor's inverse. -/
def upper (M : Nat → Nat → R) (d e : Nat) : R := o.total (fun m => o.mul (M m d) (M m e)) e (7 - e)

/-- The inverse, read off its upper half. -/
def inverse (V : Nat → Nat → R) (d e : Nat) : R :=
  if d ≤ e then o.upper (o.lower (o.factor V 8) 8) d e else o.upper (o.lower (o.factor V 8) 8) e d

/-- The inverse times the centre. -/
def shift (V : Nat → Nat → R) (mu : Nat → R) (d : Nat) : R :=
  o.total (fun e => o.mul (o.round (o.inverse V d e)) (o.round (mu e))) 0 7

/-- The centre's own quadratic form. -/
def quad (V : Nat → Nat → R) (mu : Nat → R) : R := o.total (fun d => o.mul (mu d) (o.shift V mu d)) 0 7

/-- The logarithm of the determinant: twice the sum over the factor's diagonal. -/
def logdet (V : Nat → Nat → R) : R := o.mul o.two (o.total (fun j => o.log (o.factor V 8 j j)) 0 7)

end Arith

variable {F : FTy → Type} [FloatOps F]

/-- The kernel's arithmetic on one row of 512 lanes. -/
def lanewise : Arith (FVec F S1x512 .f32) where
  add := addf
  sub := subf
  mul := mulf
  div := divf
  sqrt := sqrt
  log := log
  round v := extf .f32 (truncf .bf16 v bitsLt_bf16_f32) bitsLt_bf16_f32
  zero := broadcast S1x512 (Scalar.ofBits .f32 0x00000000#32)
  one := broadcast S1x512 (Scalar.ofBits .f32 0x3F800000#32)
  two := broadcast S1x512 (Scalar.ofBits .f32 0x40000000#32)

/-- A loaded row, laid out again as the kernel does. -/
def relaid (v : Vec F S1x512 .f32) : FVec F S1x512 .f32 :=
  shapeCast S1x512 (shapeCast S512 v shapeCasts_S1x512_S512) shapeCasts_S512_S1x512

end Cert.Proof

end
-- ==== Proof.Factor.lean ====
/- The preparation over the extended reals: while the pivots of elimination are positive, infinite ones among them, the
   triangular factor's diagonal is their square root, and the two inverses are one. -/
module

public import proofs.«01_k».proof.Proof.Prep
public import Mathlib.Data.EReal.Inv
public import Idealize.ShloMosaic.Lib.IdealHost
public import Idealize.ShloMosaic.PureOps.Ideal

@[expose] public section

noncomputable section

namespace Cert.Proof

open Finset Idealize.ShloMosaic

/-- The arithmetic of the extended reals. -/
def ideal : Arith EReal where
  add := (· + ·)
  sub := (· - ·)
  mul := (· * ·)
  div := Ideal.div
  sqrt := Ideal.sqrt
  log := Ideal.log
  round := id
  zero := 0
  one := 1
  two := ((2 : ℝ) : EReal)

/-! ## Extended reals that are reals -/

/-- It is a real. -/
def IsReal (x : EReal) : Prop := ∃ r : ℝ, x = (r : EReal)

theorem IsReal.coe (r : ℝ) : IsReal (r : EReal) := ⟨r, rfl⟩
theorem IsReal.zero : IsReal 0 := ⟨0, EReal.coe_zero.symm⟩
theorem IsReal.one : IsReal 1 := ⟨1, EReal.coe_one.symm⟩
theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩
theorem IsReal.ne_top {x : EReal} : IsReal x → x ≠ ⊤ := fun ⟨a, ha⟩ => by rw [ha]; exact EReal.coe_ne_top a
theorem IsReal.ne_bot {x : EReal} : IsReal x → x ≠ ⊥ := fun ⟨a, ha⟩ => by rw [ha]; exact EReal.coe_ne_bot a
theorem IsReal.of_ne {x : EReal} (h : x ≠ ⊤) (h' : x ≠ ⊥) : IsReal x := ⟨x.toReal, (EReal.coe_toReal h h').symm⟩
theorem IsReal.sum {ι : Type} (s : Finset ι) {f : ι → EReal} (h : ∀ i ∈ s, IsReal (f i)) : IsReal (∑ i ∈ s, f i) :=
  Finset.sum_induction f IsReal (fun _ _ => IsReal.add) IsReal.zero h

/-- A difference is a real only of reals. -/
theorem isReal_of_sub {x y : EReal} (h : IsReal (x - y)) : IsReal x ∧ IsReal y := by
  obtain ⟨r, h⟩ := h
  rw [sub_eq_add_neg] at h
  induction x with
  | bot => rw [EReal.bot_add] at h; exact absurd h.symm (EReal.coe_ne_bot r)
  | top =>
    induction y with
    | bot => rw [EReal.neg_bot] at h; exact absurd h.symm (EReal.coe_ne_top r)
    | top => rw [EReal.neg_top, EReal.add_bot] at h; exact absurd h.symm (EReal.coe_ne_bot r)
    | coe b => rw [← EReal.coe_neg, EReal.top_add_coe] at h; exact absurd h.symm (EReal.coe_ne_top r)
  | coe a =>
    induction y with
    | bot => rw [EReal.neg_bot, EReal.coe_add_top] at h; exact absurd h.symm (EReal.coe_ne_top r)
    | top => rw [EReal.neg_top, EReal.add_bot] at h; exact absurd h.symm (EReal.coe_ne_bot r)
    | coe b => exact ⟨⟨a, rfl⟩, ⟨b, rfl⟩⟩

/-- A sum is a real only of reals. -/
theorem isReal_of_add {x y : EReal} (h : IsReal (x + y)) : IsReal x ∧ IsReal y := by
  rw [← neg_neg y, ← sub_eq_add_neg] at h
  obtain ⟨hx, r, hy⟩ := isReal_of_sub h
  exact ⟨hx, -r, by rw [EReal.coe_neg, ← hy, neg_neg]⟩

theorem isReal_of_sum {ι : Type} {s : Finset ι} {f : ι → EReal} (h : IsReal (∑ i ∈ s, f i)) {i : ι} (hi : i ∈ s) : IsReal (f i) := by
  classical
  rw [← Finset.add_sum_erase s f hi] at h
  exact (isReal_of_add h).1

/-- A product with a positive is a real only of a real. -/
theorem isReal_of_mul_pos {a w : EReal} (hw : 0 < w) (h : IsReal (a * w)) : IsReal a := by
  induction a with
  | coe r => exact ⟨r, rfl⟩
  | top => rw [EReal.top_mul_of_pos hw] at h; exact absurd rfl h.ne_top
  | bot => rw [EReal.bot_mul_of_pos hw] at h; exact absurd rfl h.ne_bot

theorem isReal_of_half {x : EReal} (h : IsReal (((1 / 2 : ℝ) : EReal) * x)) : IsReal x := by
  rw [mul_comm] at h
  exact isReal_of_mul_pos (EReal.coe_pos.mpr (by norm_num)) h

/-- Infinities have an infinite product. -/
theorem not_isReal_mul {x y : EReal} (hx : ¬IsReal x) (hy : ¬IsReal y) : ¬IsReal (x * y) := by
  induction x with
  | coe r => exact absurd ⟨r, rfl⟩ hx
  | top =>
    induction y with
    | coe r => exact absurd ⟨r, rfl⟩ hy
    | top => rw [EReal.top_mul_top]; exact hx
    | bot => rw [EReal.top_mul_bot]; exact hy
  | bot =>
    induction y with
    | coe r => exact absurd ⟨r, rfl⟩ hy
    | top => rw [EReal.bot_mul_top]; exact hx
    | bot => rw [EReal.bot_mul_bot]; exact fun h => h.ne_top rfl

/-- A finite sum of reals is the same sum among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A square times a positive real is a real only of a real. -/
theorem isReal_of_square {a w : EReal} (hw : 0 < w) (h : IsReal (a * (a * w))) : IsReal a := by
  induction a with
  | coe r => exact ⟨r, rfl⟩
  | top => rw [EReal.top_mul_of_pos hw, EReal.top_mul_top] at h; exact absurd rfl h.ne_top
  | bot => rw [EReal.bot_mul_of_pos hw, EReal.bot_mul_bot] at h; exact absurd rfl h.ne_top

/-- The reciprocal of the square root. -/
def root (y : EReal) : EReal := Ideal.div 1 (Ideal.sqrt y)

theorem div_pos {x y : EReal} (h : 0 < y) : Ideal.div x y = x * y⁻¹ := if_neg h.ne'

theorem sqrt_pos {y : EReal} (h : 0 < y) : 0 < Ideal.sqrt y := by
  induction y with
  | bot => exact absurd h (by simp)
  | top => exact h
  | coe r =>
    have hr : 0 < r := EReal.coe_pos.mp h
    rw [Ideal.sqrt_coe, if_neg (not_lt.mpr hr.le)]
    exact EReal.coe_pos.mpr (Real.sqrt_pos.mpr hr)

theorem root_coe {r : ℝ} (h : 0 < r) : root (r : EReal) = (((Real.sqrt r)⁻¹ : ℝ) : EReal) := by
  have hs := sqrt_pos (EReal.coe_pos.mpr h)
  unfold root
  rw [div_pos hs, one_mul, Ideal.sqrt_coe, if_neg (not_lt.mpr h.le), EReal.coe_inv]

theorem root_top : root ⊤ = 0 := by
  unfold root
  rw [div_pos (sqrt_pos EReal.zero_lt_top)]
  exact (one_mul _).trans EReal.inv_top

/-- Its square is the reciprocal. -/
theorem root_mul_root {y : EReal} (h : 0 < y) : root y * root y = y⁻¹ := by
  induction y with
  | bot => exact absurd h (by simp)
  | top => rw [root_top, EReal.inv_top, mul_zero]
  | coe r =>
    have hr : 0 < r := EReal.coe_pos.mp h
    rw [root_coe hr, ← EReal.coe_mul, ← EReal.coe_inv, ← mul_inv, Real.mul_self_sqrt hr.le]

theorem root_real {y : EReal} (h : 0 < y) : IsReal (root y) := by
  induction y with
  | bot => exact absurd h (by simp)
  | top => rw [root_top]; exact IsReal.zero
  | coe r => rw [root_coe (EReal.coe_pos.mp h)]; exact IsReal.coe _

theorem inv_real {y : EReal} (h : 0 < y) : IsReal y⁻¹ := by rw [← root_mul_root h]; exact (root_real h).mul (root_real h)

/-- Twice the logarithm of the square root is the logarithm. -/
theorem two_log_sqrt {y : EReal} (h : 0 < y) : ((2 : ℝ) : EReal) * Ideal.log (Ideal.sqrt y) = Ideal.log y := by
  induction y with
  | bot => exact absurd h (by simp)
  | top => exact EReal.coe_mul_top_of_pos (by norm_num)
  | coe r =>
    have hr : 0 < r := EReal.coe_pos.mp h
    rw [Ideal.sqrt_coe, if_neg (not_lt.mpr hr.le), Ideal.log_coe, if_neg (not_le.mpr (Real.sqrt_pos.mpr hr)), Ideal.log_coe, if_neg (not_le.mpr hr),
      ← EReal.coe_mul, Real.log_sqrt hr.le, mul_div_cancel₀ _ (by norm_num : (2 : ℝ) ≠ 0)]

theorem log_ne_bot {y : EReal} (h : 0 < y) : Ideal.log y ≠ ⊥ := by
  induction y with
  | bot => exact absurd h (by simp)
  | top => exact top_ne_bot
  | coe r => rw [Ideal.log_coe, if_neg (not_le.mpr (EReal.coe_pos.mp h))]; exact EReal.coe_ne_bot _

/-- What is not positive has no logarithm, nor has its square root. -/
theorem log_of_not_pos {y : EReal} (h : ¬0 < y) : Ideal.log y = ⊥ ∧ Ideal.log (Ideal.sqrt y) = ⊥ := by
  induction y with
  | bot => exact ⟨rfl, rfl⟩
  | top => exact absurd EReal.zero_lt_top h
  | coe r =>
    have hr : r ≤ 0 := not_lt.mp fun c => h (EReal.coe_pos.mpr c)
    refine ⟨by rw [Ideal.log_coe, if_pos hr], ?_⟩
    rw [Ideal.sqrt_coe]
    split
    · rfl
    · rw [Real.sqrt_eq_zero_of_nonpos hr, Ideal.log_coe, if_pos (le_refl _)]

/-- A sum with a bottom is one. -/
theorem sum_bot {ι : Type} {s : Finset ι} {f : ι → EReal} {i : ι} (hi : i ∈ s) (h : f i = ⊥) : ∑ j ∈ s, f j = ⊥ := by
  classical
  rw [← Finset.add_sum_erase s f hi, h, EReal.bot_add]

theorem sum_ne_bot {ι : Type} {s : Finset ι} {f : ι → EReal} (h : ∀ i ∈ s, f i ≠ ⊥) : ∑ j ∈ s, f j ≠ ⊥ :=
  Finset.sum_induction f (· ≠ ⊥) (fun _ _ ha hb => EReal.add_ne_bot_iff.mpr ⟨ha, hb⟩) EReal.zero_ne_bot h

/-- A sum with a top and no bottom is a top. -/
theorem sum_top {ι : Type} {s : Finset ι} {f : ι → EReal} {i : ι} (hi : i ∈ s) (h : f i = ⊤) (hb : ∀ j ∈ s, f j ≠ ⊥) : ∑ j ∈ s, f j = ⊤ := by
  classical
  rw [← Finset.add_sum_erase s f hi, h]
  exact EReal.top_add_of_ne_bot (sum_ne_bot fun j hj => hb j (Finset.mem_of_mem_erase hj))

/-- A real that is not negative goes through a sum. -/
theorem coe_mul_sum {ι : Type} (s : Finset ι) (f : ι → EReal) {c : ℝ} (hc : 0 ≤ c) : (c : EReal) * ∑ j ∈ s, f j = ∑ j ∈ s, (c : EReal) * f j := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- The total is a sum. -/
theorem total_ideal (f : Nat → EReal) (a n : Nat) : ideal.total f a n = ∑ m ∈ Ico a (a + n + 1), f m := by
  induction n with
  | zero => simp [Arith.total]
  | succ n ih =>
    rw [show a + (n + 1) + 1 = a + n + 1 + 1 by omega, sum_Ico_succ_top (by omega), ← ih]
    unfold Arith.total
    rw [List.range_succ, List.foldl_append]
    show _ + f (a + 1 + n) = _
    rw [show a + 1 + n = a + n + 1 by omega]

/-! ## Elimination -/

/-- Elimination of `[V | 1]`, eight by sixteen: step `p` divides row `p` by its pivot and clears its column. -/
def elim (V : Nat → Nat → EReal) : Nat → Nat → Nat → EReal
  | 0, i, j => if j < 8 then V i j else if j = 8 + i then 1 else 0
  | p + 1, i, j => if i = p then Ideal.div (elim V p p j) (elim V p p p) else elim V p i j - elim V p i p * Ideal.div (elim V p p j) (elim V p p p)

/-- The pivot of step `p`. -/
def pivot (V : Nat → Nat → EReal) (p : Nat) : EReal := elim V p p p

section Steps

variable (V : Nat → Nat → EReal) {p : Nat} (hp : 0 < pivot V p)
include hp

theorem elim_at (j : Nat) : elim V (p + 1) p j = elim V p p j * (pivot V p)⁻¹ := by
  rw [elim, if_pos rfl]; exact div_pos hp

theorem elim_off {i : Nat} (hi : i ≠ p) (j : Nat) : elim V (p + 1) i j = elim V p i j - elim V p i p * (elim V p p j * (pivot V p)⁻¹) := by
  rw [elim, if_neg hi, div_pos (y := elim V p p p) hp]; rfl

/-- An infinite pivot changes no other row. -/
theorem elim_off_top {i : Nat} (hi : i ≠ p) (j : Nat) (ht : pivot V p = ⊤) : elim V (p + 1) i j = elim V p i j := by
  rw [elim_off V hp hi, ht, EReal.inv_top, mul_zero, mul_zero, sub_zero]

end Steps

section Prefix

variable (V : Nat → Nat → EReal) {N : Nat} (hN : N ≤ 8) (hs : ∀ i < 8, ∀ j < 8, V i j = V j i) (hp : ∀ p < N, 0 < pivot V p)
include hN hs hp

/-- What is left below step `p` stays symmetric. -/
theorem elim_symm : ∀ p ≤ N, ∀ i < 8, ∀ j < 8, p ≤ i → p ≤ j → elim V p i j = elim V p j i
  | 0, _, i, hi, j, hj, _, _ => by rw [elim, elim, if_pos hj, if_pos hi, hs i hi j hj]
  | p + 1, h, i, hi, j, hj, hpi, hpj => by
    have ih := elim_symm p (by omega)
    rw [elim_off V (hp p (by omega)) (by omega), elim_off V (hp p (by omega)) (by omega), ih i hi j hj (by omega) (by omega),
      ih p (by omega) j hj (le_refl _) (by omega), ih i hi p (by omega) (by omega) (le_refl _), mul_left_comm]

/-- The factor's entry at row `i` of column `m`, from the elimination. -/
def column (V : Nat → Nat → EReal) (i m : Nat) : EReal := if i = m then Ideal.sqrt (pivot V m) else elim V m i m * root (pivot V m)

/-- Taking the factor's columns off is elimination. -/
theorem rest_of_columns {n : Nat} (hn : n ≤ N) {L : Nat → Nat → EReal} (hL : ∀ m < n, ∀ i < 8, m ≤ i → L i m = column V i m)
    {i j : Nat} (hi : i < 8) (hj : j < 8) (hni : n ≤ i) (hnj : n ≤ j) : ∀ m ≤ n, ideal.rest V L m i j = elim V m i j
  | 0, _ => by rw [elim, if_pos hj]; rfl
  | m + 1, hm => by
    have ih := rest_of_columns hn hL hi hj hni hnj m (by omega)
    have hpm := hp m (by omega)
    rw [elim_off V hpm (by omega), ← ih]
    unfold Arith.rest
    rw [List.range_succ, List.foldl_append]
    show _ - L i m * L j m = _
    rw [hL m (by omega) i hi (by omega), hL m (by omega) j hj (by omega), column, column, if_neg (by omega), if_neg (by omega),
      elim_symm V hN hs hp m (by omega) m (by omega) j hj (le_refl _) (by omega), ← root_mul_root hpm]
    refine congrArg₂ (fun s t : EReal => s - t) rfl ?_
    rw [mul_assoc, mul_left_comm (root _)]

/-- The factor's columns as far as the pivots are positive, and one more. -/
theorem factor_ideal : ∀ n ≤ 8, n ≤ N + 1 → ∀ m < n, ∀ i < 8, m ≤ i → ideal.factor V n i m = column V i m
  | n + 1, h8, hn, m, hm, i, hi, hmi => by
    have ih := factor_ideal n (by omega) (by omega)
    unfold Arith.factor
    by_cases c : m = n
    · subst c
      rw [if_pos rfl]
      have hr := fun (i : Nat) (hi : i < 8) (hmi : m ≤ i) => rest_of_columns V hN hs hp (n := m) (by omega) ih hi (by omega : m < 8) hmi (le_refl _) m (le_refl _)
      rw [hr m (by omega) (le_refl _), hr i hi hmi]
      rfl
    · rw [if_neg c]
      exact ih m (by omega) i hi hmi

/-- A column once made stays. -/
theorem factor_stable (i m : Nat) : ∀ n, m < n → ideal.factor V n i m = ideal.factor V (m + 1) i m
  | n + 1, h => by
    by_cases c : m = n
    · rw [c]
    · rw [← factor_stable i m n (by omega), Arith.factor, if_neg c]

/-- The diagonal of the whole factor, as far. -/
theorem factor_diag {j : Nat} (hj : j ≤ N) (h8 : j < 8) : ideal.factor V 8 j j = Ideal.sqrt (pivot V j) := by
  rw [factor_stable V hN hs hp j j 8 h8, factor_ideal V hN hs hp (j + 1) (by omega) (by omega) j (by omega) j h8 (le_refl _), column, if_pos rfl]

end Prefix

/-- The logarithms of the pivots, added up. -/
def logs (V : Nat → Nat → EReal) : EReal := ∑ p ∈ range 8, Ideal.log (pivot V p)

theorem logdet_sum (V : Nat → Nat → EReal) : ideal.logdet V = ((2 : ℝ) : EReal) * ∑ p ∈ range 8, Ideal.log (ideal.factor V 8 p p) := by
  show _ * ideal.total _ 0 7 = _
  rw [total_ideal, range_eq_Ico]; rfl

/-- A pivot that is not positive leaves neither side a logarithm. -/
theorem logdet_bot (V : Nat → Nat → EReal) (hs : ∀ i < 8, ∀ j < 8, V i j = V j i) (h : ¬∀ p < 8, 0 < pivot V p) :
    ideal.logdet V = ⊥ ∧ logs V = ⊥ := by
  have h' : ∃ p, p < 8 ∧ ¬0 < pivot V p := by simpa using h
  classical
  obtain ⟨hn, hneg⟩ := Nat.find_spec h'
  have hmin : ∀ p < Nat.find h', 0 < pivot V p := fun p hp => by
    have := Nat.find_min h' hp
    by_contra c
    exact this ⟨by omega, c⟩
  generalize Nat.find h' = N at *
  obtain ⟨l1, l2⟩ := log_of_not_pos hneg
  refine ⟨?_, sum_bot (mem_range.mpr hn) l1⟩
  rw [logdet_sum, sum_bot (mem_range.mpr hn), EReal.coe_mul_bot_of_pos (by norm_num)]
  rw [factor_diag V hn.le hs hmin (le_refl _) hn, l2]

section Whole

variable (V : Nat → Nat → EReal) (hs : ∀ i < 8, ∀ j < 8, V i j = V j i) (hp : ∀ p < 8, 0 < pivot V p)
include hs hp

theorem logdet_ideal : ideal.logdet V = logs V := by
  rw [logdet_sum, coe_mul_sum _ _ (by norm_num)]
  refine sum_congr rfl fun p h => ?_
  have h8 := mem_range.mp h
  rw [factor_diag V (le_refl 8) hs hp h8.le h8, two_log_sqrt (hp p h8)]

/-- The entries beside the matrix that no step has reached. -/
theorem beside : ∀ p ≤ 8, ∀ i < 8, p ≤ i → ∀ q < 8, p ≤ q → elim V p i (8 + q) = if q = i then 1 else 0
  | 0, _, i, _, _, q, _, _ => by
    rw [elim, if_neg (by omega)]; exact if_congr (by omega) rfl rfl
  | p + 1, h, i, hi, hpi, q, hq, hpq => by
    have ih := beside p (by omega)
    rw [elim_off V (hp p (by omega)) (by omega), ih i hi (by omega) q hq (by omega), ih p (by omega) (le_refl _) q hq (by omega), if_neg (by omega : ¬q = p),
      zero_mul, mul_zero, sub_zero]

/-- The diagonal of a row with a real pivot is real throughout. -/
theorem diag_real {i : Nat} (hi : i < 8) (ht : pivot V i ≠ ⊤) : ∀ n p, p + n = i → IsReal (elim V p i i)
  | 0, p, h => by
    have : p = i := by omega
    subst this
    exact IsReal.of_ne ht (fun hb => absurd (hp p hi) (by rw [show pivot V p = ⊥ from hb]; simp))
  | n + 1, p, h => by
    have ih := diag_real hi ht n (p + 1) (by omega)
    rw [elim_off V (hp p (by omega)) (by omega)] at ih
    exact (isReal_of_sub ih).1

/-- Its entries are real in the columns with real pivots. -/
theorem entry_real {i p : Nat} (hi : i < 8) (ht : pivot V i ≠ ⊤) (hpi : p < i) (htp : pivot V p ≠ ⊤) : IsReal (elim V p i p) := by
  have h := diag_real V hs hp hi ht (i - (p + 1)) (p + 1) (by omega)
  rw [elim_off V (hp p (by omega)) (by omega), elim_symm V (le_refl 8) hs hp p (by omega) p (by omega) i hi (le_refl _) hpi.le] at h
  exact isReal_of_square (EReal.inv_pos_of_pos_ne_top (hp p (by omega)) htp) (isReal_of_sub h).2

/-- Its entries beside the matrix are real. -/
theorem beside_real : ∀ p ≤ 8, ∀ i < 8, p ≤ i → pivot V i ≠ ⊤ → ∀ j < 8, IsReal (elim V p i (8 + j))
  | 0, _, i, _, _, _, j, _ => by
    rw [elim, if_neg (by omega)]
    split
    · exact IsReal.one
    · exact IsReal.zero
  | p + 1, h, i, hi, hpi, ht, j, hj => by
    have ih := beside_real p (by omega)
    have hpp := hp p (by omega)
    by_cases htp : pivot V p = ⊤
    · rw [elim_off_top V hpp (by omega) _ htp]
      exact ih i hi (by omega) ht j hj
    · rw [elim_off V hpp (by omega)]
      exact (ih i hi (by omega) ht j hj).sub ((entry_real V hs hp hi ht (by omega) htp).mul ((ih p (by omega) (le_refl _) htp j hj).mul (inv_real hpp)))

/-- The entry of the factor's inverse at row `m` and column `j`. -/
def low (V : Nat → Nat → EReal) (m j : Nat) : EReal := elim V m m (8 + j) * root (pivot V m)

theorem low_top {m : Nat} (ht : pivot V m = ⊤) (j : Nat) : low V m j = 0 := by rw [low, ht, root_top, mul_zero]

theorem low_real {m : Nat} (hm : m < 8) {j : Nat} (hj : j < 8) : IsReal (low V m j) := by
  by_cases ht : pivot V m = ⊤
  · rw [low_top V hs hp ht]; exact IsReal.zero
  · exact (beside_real V hs hp m hm.le m hm (le_refl _) ht j hj).mul (root_real (hp m hm))

theorem low_zero {m j : Nat} (hm : m < j) (hj : j < 8) : low V m j = 0 := by
  rw [low, beside V hs hp m (by omega) m (by omega) (le_refl _) j hj hm.le, if_neg (by omega), zero_mul]

theorem low_self {m : Nat} (hm : m < 8) : low V m m = root (pivot V m) := by
  rw [low, beside V hs hp m (by omega) m (by omega) (le_refl _) m hm (le_refl _), if_pos rfl, one_mul]

/-- Above a row with a real pivot the matrix holds what stands beside the row, negated. -/
theorem above : ∀ p ≤ 8, ∀ i < 8, p ≤ i → pivot V i ≠ ⊤ → ∀ d < p, elim V p d i = -elim V p i (8 + d)
  | p + 1, h, i, hi, hpi, ht, d, hd => by
    have hpp := hp p (by omega)
    have hsym := elim_symm V (le_refl 8) hs hp p (by omega) p (by omega) i hi (le_refl _) (by omega)
    by_cases c : d = p
    · subst c
      rw [elim_at V hpp, elim_off V hpp (by omega), beside V hs hp d (by omega) i hi (by omega) d (by omega) (le_refl _), if_neg (by omega),
        beside V hs hp d (by omega) d (by omega) (le_refl _) d (by omega) (le_refl _), if_pos rfl, one_mul, zero_sub, neg_neg, hsym]
    · have ih := above p (by omega)
      by_cases htp : pivot V p = ⊤
      · rw [elim_off_top V hpp c _ htp, elim_off_top V hpp (by omega) _ htp]
        exact ih i hi (by omega) ht d (by omega)
      · have hr : IsReal (elim V p i p * (elim V p p (8 + d) * (pivot V p)⁻¹)) :=
          (entry_real V hs hp hi ht (by omega) htp).mul ((beside_real V hs hp p (by omega) p (by omega) (le_refl _) htp d (by omega)).mul (inv_real hpp))
        rw [elim_off V hpp c, elim_off V hpp (by omega), EReal.neg_sub (Or.inr hr.ne_bot) (Or.inr hr.ne_top), ih i hi (by omega) ht d (by omega),
          ih p (by omega) (le_refl _) htp d (by omega), hsym, neg_mul, sub_eq_add_neg, neg_neg, mul_left_comm]

/-- The inverse as the steps build it: a sum over the rows of the factor's inverse. -/
theorem elim_sum {d e : Nat} (hd : d < 8) (he : e < 8) : ∀ p ≤ 8, d < p → elim V p d (8 + e) = ∑ m ∈ Ico d p, low V m d * low V m e
  | p + 1, h, hdp => by
    have hpp := hp p (by omega)
    by_cases c : d = p
    · subst c
      rw [elim_at V hpp, Nat.Ico_succ_singleton, sum_singleton, low_self V hs hp hd, low, mul_left_comm, root_mul_root hpp]
    · have ih := elim_sum hd he p (by omega) (by omega)
      rw [sum_Ico_succ_top (by omega), ← ih]
      by_cases htp : pivot V p = ⊤
      · rw [elim_off_top V hpp c _ htp, low_top V hs hp htp, zero_mul, add_zero]
      · rw [elim_off V hpp c, above V hs hp p (by omega) p (by omega) (le_refl _) htp d (by omega), neg_mul, sub_eq_add_neg, neg_neg, low, low, ← root_mul_root hpp]
        refine congrArg (_ + ·) ?_
        rw [mul_assoc, mul_left_comm (root _)]

/-- What stands beside a row with a real pivot, from the rows before. -/
theorem beside_sum {i j : Nat} (hi : i < 8) (ht : pivot V i ≠ ⊤) (hji : j < i) :
    ∀ p ≤ i, j ≤ p → elim V p i (8 + j) = -∑ m ∈ Ico j p, elim V m i m * root (pivot V m) * low V m j := by
  intro p
  induction p with
  | zero =>
    intro _ hj
    rw [beside V hs hp 0 (by omega) i hi (by omega) j (by omega) (by omega), if_neg (by omega), show j = 0 by omega]; simp
  | succ p ih =>
    intro hpi hjp
    by_cases c : j = p + 1
    · rw [c, beside V hs hp (p + 1) (by omega) i hi (by omega) (p + 1) (by omega) (le_refl _), if_neg (by omega)]; simp
    · have hpp := hp p (by omega)
      rw [sum_Ico_succ_top (by omega)]
      have ih := ih (by omega) (by omega)
      by_cases htp : pivot V p = ⊤
      · rw [elim_off_top V hpp (by omega) _ htp, ih, low_top V hs hp htp, mul_zero, add_zero]
      · have hr : IsReal (elim V p i p * root (pivot V p) * low V p j) :=
          ((entry_real V hs hp hi ht (by omega) htp).mul (root_real hpp)).mul (low_real V hs hp (by omega) (by omega))
        rw [EReal.neg_add (Or.inr hr.ne_top) (Or.inr hr.ne_bot), elim_off V hpp (by omega), ih, low, ← root_mul_root hpp]
        refine congrArg (fun s : EReal => -(∑ m ∈ Ico j p, elim V m i m * root (pivot V m) * low V m j) - s) ?_
        rw [mul_assoc, mul_left_comm (root _)]

/-- The kernel's inverse of the factor. -/
theorem lower_ideal : ∀ n ≤ 8, ∀ i < n, ∀ j ≤ i, ideal.lower (ideal.factor V 8) n i j = low V i j
  | n + 1, hn, i, hi, j, hj => by
    have ih := lower_ideal n (by omega)
    unfold Arith.lower
    have hrec : ideal.recip (ideal.factor V 8) n = root (pivot V n) := by
      unfold Arith.recip
      rw [factor_diag V (le_refl 8) hs hp (by omega) (by omega)]; rfl
    by_cases c : i = n
    · subst c
      rw [if_pos rfl, hrec]
      by_cases cj : j = i
      · subst cj
        rw [if_pos rfl, low_self V hs hp (by omega)]
      · rw [if_neg cj, total_ideal, show j + (i - 1 - j) + 1 = i by omega]
        show (0 - _) * _ = _
        by_cases ht : pivot V i = ⊤
        · rw [low_top V hs hp ht, ht, root_top, mul_zero]
        · rw [low, beside_sum V hs hp (by omega) ht (by omega) i (le_refl _) hj, zero_sub]
          refine congrArg (fun s => -s * _) (sum_congr rfl fun m hm => ?_)
          have hm := mem_Ico.mp hm
          show ideal.factor V 8 i m * ideal.lower _ i m j = _
          rw [ih m hm.2 j hm.1, factor_ideal V (le_refl 8) hs hp 8 (le_refl _) (by omega) m (by omega) i (by omega) hm.2.le, column, if_neg (by omega)]
    · rw [if_neg c]
      exact ih i (by omega) j hj

/-- Rows before `e` add nothing to the inverse. -/
theorem elim_sum_from {d e f : Nat} (hd : d < 8) (he : e < 8) (hdf : d ≤ f) (hf : f < 8) (h : ∀ m < f, low V m d * low V m e = 0) :
    elim V 8 d (8 + e) = ∑ m ∈ Ico f 8, low V m d * low V m e := by
  rw [elim_sum V hs hp hd he 8 (le_refl _) hd, ← sum_Ico_consecutive _ hdf (by omega : f ≤ 8), sum_eq_zero fun m hm => h m (mem_Ico.mp hm).2, zero_add]

theorem upper_ideal {d e : Nat} (hde : d ≤ e) (he : e < 8) :
    ideal.upper (ideal.lower (ideal.factor V 8) 8) d e = elim V 8 d (8 + e) := by
  unfold Arith.upper
  rw [total_ideal, show e + (7 - e) + 1 = 8 by omega, elim_sum_from V hs hp (by omega) he hde he fun m hm => by rw [low_zero V hs hp hm he, mul_zero]]
  refine sum_congr rfl fun m hm => ?_
  have hm := mem_Ico.mp hm
  show ideal.lower _ 8 m d * ideal.lower _ 8 m e = _
  rw [lower_ideal V hs hp 8 (le_refl _) m hm.2 d (by omega), lower_ideal V hs hp 8 (le_refl _) m hm.2 e hm.1]

/-- The inverse that elimination leaves is symmetric. -/
theorem elim_inverse_symm {d e : Nat} (hde : d ≤ e) (he : e < 8) : elim V 8 e (8 + d) = elim V 8 d (8 + e) := by
  rw [elim_sum_from V hs hp (by omega) he hde he fun m hm => by rw [low_zero V hs hp hm he, mul_zero],
    elim_sum V hs hp he (by omega) 8 (le_refl _) he]
  exact sum_congr rfl fun m _ => mul_comm _ _

/-- The kernel's inverse is the one that elimination leaves. -/
theorem inverse_ideal {d e : Nat} (hd : d < 8) (he : e < 8) : ideal.inverse V d e = elim V 8 d (8 + e) := by
  unfold Arith.inverse
  split
  · exact upper_ideal V hs hp (by assumption) he
  · rw [upper_ideal V hs hp (by omega) hd, elim_inverse_symm V hs hp (by omega) hd]

theorem elim_real {d e : Nat} (hd : d < 8) (he : e < 8) : IsReal (elim V 8 d (8 + e)) := by
  rw [elim_sum V hs hp hd he 8 (le_refl _) hd]
  exact IsReal.sum _ fun m hm => (low_real V hs hp (mem_Ico.mp hm).2 hd).mul (low_real V hs hp (mem_Ico.mp hm).2 he)

/-- An infinite pivot makes the logarithms infinite. -/
theorem logs_top {p : Nat} (h8 : p < 8) (ht : pivot V p = ⊤) : logs V = ⊤ :=
  sum_top (mem_range.mpr h8) (by rw [ht]; rfl) fun j hj => log_ne_bot (hp j (mem_range.mp hj))

/-- The inverse's diagonal is positive where the pivot is a real. -/
theorem elim_diag_pos {d : Nat} (hd : d < 8) (ht : pivot V d ≠ ⊤) : 0 < elim V 8 d (8 + d) := by
  rw [elim_sum V hs hp hd hd 8 (le_refl _) hd, sum_eq_sum_Ico_succ_bot hd]
  have hsq : ∀ m < 8, 0 ≤ low V m d * low V m d := fun m hm => by
    obtain ⟨r, h⟩ := low_real V hs hp hm hd
    rw [h, ← EReal.coe_mul]; exact EReal.coe_nonneg.mpr (mul_self_nonneg r)
  refine add_pos_of_pos_of_nonneg ?_ (sum_nonneg fun m hm => hsq m (mem_Ico.mp hm).2)
  rw [low_self V hs hp hd, root_mul_root (hp d hd)]
  exact EReal.inv_pos_of_pos_ne_top (hp d hd) ht

end Whole

/-- A symmetric matrix either leaves neither side a logarithm, or both sides the same inverse, real and symmetric, and the
    same logarithm, which is infinite unless the inverse's diagonal is positive. -/
theorem prepared (V : Nat → Nat → EReal) (hs : ∀ i < 8, ∀ j < 8, V i j = V j i) :
    (ideal.logdet V = ⊥ ∧ logs V = ⊥) ∨ (ideal.logdet V = logs V ∧ (∀ d < 8, ∀ e < 8, ideal.inverse V d e = elim V 8 d (8 + e))
      ∧ (∀ d < 8, ∀ e < 8, IsReal (elim V 8 d (8 + e))) ∧ (∀ d < 8, ∀ e < 8, elim V 8 d (8 + e) = elim V 8 e (8 + d))
      ∧ (logs V = ⊤ ∨ ∀ d < 8, 0 < elim V 8 d (8 + d))) := by
  by_cases hp : ∀ p < 8, 0 < pivot V p
  · refine Or.inr ⟨logdet_ideal V hs hp, fun d hd e he => inverse_ideal V hs hp hd he, fun d hd e he => elim_real V hs hp hd he, fun d hd e he => ?_, ?_⟩
    · rcases le_total d e with h | h
      · exact (elim_inverse_symm V hs hp h he).symm
      · exact elim_inverse_symm V hs hp h hd
    · by_cases ht : ∃ p < 8, pivot V p = ⊤
      · obtain ⟨p, h8, ht⟩ := ht
        exact Or.inl (logs_top V hs hp h8 ht)
      · exact Or.inr fun d hd => elim_diag_pos V hs hp hd fun c => ht ⟨d, hd, c⟩
  · exact Or.inl (logdet_bot V hs hp)

end Cert.Proof

end
-- ==== Proof.Lanes.lean ====
/- The kernel's preparation on one lane is the preparation over the extended reals. -/
module

public import proofs.«01_k».proof.Proof.Factor
public import Idealize.ShloMosaic.Lib.Pointwise.Tactic

@[expose] public section

set_option maxRecDepth 16384

noncomputable section

namespace Cert.Proof

open Idealize.ShloMosaic Idealize.ShloMosaic.TcCoe Cert.KernelIdeal Cert.KernelIdeal.Gen

/-- A function that takes one arithmetic's operations to another's. -/
structure Maps {R S : Type} (o : Arith R) (o' : Arith S) (φ : R → S) : Prop where
  add : ∀ a b, φ (o.add a b) = o'.add (φ a) (φ b)
  sub : ∀ a b, φ (o.sub a b) = o'.sub (φ a) (φ b)
  mul : ∀ a b, φ (o.mul a b) = o'.mul (φ a) (φ b)
  div : ∀ a b, φ (o.div a b) = o'.div (φ a) (φ b)
  sqrt : ∀ a, φ (o.sqrt a) = o'.sqrt (φ a)
  log : ∀ a, φ (o.log a) = o'.log (φ a)
  round : ∀ a, φ (o.round a) = o'.round (φ a)
  zero : φ o.zero = o'.zero
  one : φ o.one = o'.one
  two : φ o.two = o'.two

namespace Maps

variable {R S : Type} {o : Arith R} {o' : Arith S} {φ : R → S} (M : Maps o o' φ)
include M

theorem total {f : Nat → R} {f' : Nat → S} (h : ∀ m, φ (f m) = f' m) (a : Nat) : ∀ n, φ (o.total f a n) = o'.total f' a n
  | 0 => h a
  | n + 1 => by
    have ih := total h a n
    unfold Arith.total at ih ⊢
    rw [List.range_succ, List.foldl_append, List.foldl_append, ← ih]
    exact (M.add _ _).trans (congrArg _ (h _))

theorem rest {V L : Nat → Nat → R} {V' L' : Nat → Nat → S} (hV : ∀ i j, φ (V i j) = V' i j) (hL : ∀ i j, φ (L i j) = L' i j) (i j : Nat) :
    ∀ n, φ (o.rest V L n i j) = o'.rest V' L' n i j
  | 0 => hV i j
  | n + 1 => by
    have ih := rest hV hL i j n
    unfold Arith.rest at ih ⊢
    rw [List.range_succ, List.foldl_append, List.foldl_append, ← ih]
    exact (M.sub _ _).trans (congrArg _ ((M.mul _ _).trans (congrArg₂ _ (hL _ _) (hL _ _))))

theorem lower {L : Nat → Nat → R} {L' : Nat → Nat → S} (hL : ∀ i j, φ (L i j) = L' i j) : ∀ n i j, φ (o.lower L n i j) = o'.lower L' n i j
  | 0, _, _ => M.zero
  | n + 1, i, j => by
    have ih := lower hL n
    have hr : φ (o.recip L n) = o'.recip L' n := (M.div _ _).trans (congrArg₂ _ M.one (hL n n))
    unfold Arith.lower
    split
    · split
      · exact hr
      · exact (M.mul _ _).trans (congrArg₂ _ ((M.sub _ _).trans (congrArg₂ _ M.zero (M.total (fun m => (M.mul _ _).trans (congrArg₂ _ (hL n m) (ih m j))) _ _))) hr)
    · exact ih i j

variable {V : Nat → Nat → R} {V' : Nat → Nat → S} (hV : ∀ i j, φ (V i j) = V' i j)
include hV

theorem factor : ∀ n i j, φ (o.factor V n i j) = o'.factor V' n i j
  | 0, _, _ => M.zero
  | n + 1, i, j => by
    have ih := factor n
    have hr := fun i => M.rest hV ih i n n
    have hs := (M.sqrt _).trans (congrArg _ (hr n))
    unfold Arith.factor
    split
    · split
      · exact hs
      · exact (M.mul _ _).trans (congrArg₂ _ (hr i) ((M.div _ _).trans (congrArg₂ _ M.one hs)))
    · exact ih i j

theorem inverse (d e : Nat) : φ (o.inverse V d e) = o'.inverse V' d e := by
  have hl := M.lower (M.factor hV 8) 8
  have hu : ∀ d e, φ (o.upper (o.lower (o.factor V 8) 8) d e) = o'.upper (o'.lower (o'.factor V' 8) 8) d e := fun d e =>
    M.total (fun m => (M.mul _ _).trans (congrArg₂ _ (hl m d) (hl m e))) _ _
  unfold Arith.inverse
  split
  · exact hu d e
  · exact hu e d

theorem logdet : φ (o.logdet V) = o'.logdet V' :=
  (M.mul _ _).trans (congrArg₂ _ M.two (M.total (fun j => (M.log _).trans (congrArg _ (M.factor hV 8 j j))) _ _))

variable {mu : Nat → R} {mu' : Nat → S} (hmu : ∀ d, φ (mu d) = mu' d)
include hmu

theorem shift (d : Nat) : φ (o.shift V mu d) = o'.shift V' mu' d :=
  M.total (fun e => (M.mul _ _).trans (congrArg₂ _ ((M.round _).trans (congrArg _ (M.inverse hV d e))) ((M.round _).trans (congrArg _ (hmu e))))) _ _

theorem quad : φ (o.quad V mu) = o'.quad V' mu' :=
  M.total (fun d => (M.mul _ _).trans (congrArg₂ _ (hmu d) (M.shift hV hmu d))) _ _

end Maps

/-- A row's entry on lane `k`. -/
def lane (k : Fin 512) (v : FVec Ideal S1x512 .f32) : EReal := v (ix2 0 k)

theorem ofBits_two_f32 : Ideal.ofBits .f32 0x40000000#32 = ((2 : ℝ) : EReal) := by
  simp [Ideal.ofBits, Ideal.ieee, -EReal.coe_mul]; norm_num

/-- The kernel's arithmetic on a row, read on one lane, is that of the extended reals. -/
theorem lanewise_maps (k : Fin 512) : Maps (lanewise (F := Ideal)) ideal (lane k) where
  add _ _ := rfl
  sub _ _ := rfl
  mul _ _ := rfl
  div _ _ := rfl
  sqrt _ := rfl
  log _ := rfl
  round _ := rfl
  zero := Ideal.ofBits_zero_f32
  one := Ideal.ofBits_one_f32
  two := ofBits_two_f32

end Cert.Proof

end
-- ==== Proof.Stage.lean ====
/- The kernel's sort, written as its stages, over the operations the kernel is printed with. -/
module

public import proofs.«01_k».proof.Proof.Gen.KernelIdeal.Skeleton

@[expose] public section

set_option maxRecDepth 16384

noncomputable section

namespace Cert.Proof

open Idealize.ShloMosaic Idealize.ShloMosaic.TcCoe Cert.KernelIdeal Cert.KernelIdeal.Gen

/-- A block of 256 rows and `n` lanes. -/
abbrev Lanes (n : Nat) : Shape := ⟨2, ![256, n]⟩

/-- The shape conditions of the two rotations by `j` lanes. -/
structure Fits (j : Nat) : Prop where
  tail : S256x512.Slices ![0, j] (Lanes (512 - j))
  head : S256x512.Slices ![0, 0] (Lanes j)
  last : S256x512.Slices ![0, 512 - j] (Lanes j)
  init : S256x512.Slices ![0, 0] (Lanes (512 - j))
  left : Shape.Concatenates [Lanes (512 - j), Lanes j] S256x512 1
  right : Shape.Concatenates [Lanes j, Lanes (512 - j)] S256x512 1

/-- The distance of stage `s`. -/
abbrev dist (s : Nat) : Nat := 2 ^ (s % 9)

/-- They hold at every distance of the sort. -/
theorem fits (s : Nat) : Fits (dist s) := by
  have h : ∀ r : Fin 9, Fits (2 ^ r.val) := fun r => by
    fin_cases r <;> exact ⟨by decide, by decide, by decide, by decide, by decide, by decide⟩
  exact h ⟨s % 9, Nat.mod_lt _ (by decide)⟩

/-- The lane numbers. -/
def lanes : IVec S256x512 32 := iota .tc S256x512 32 [1] iota_S256x512_d1_w32

/-- The lanes whose number has no bit of `w`. -/
def clear (w : BitVec 32) : IVec S256x512 1 :=
  cmpi .eq (andi lanes (broadcast S256x512 w)) (broadcast S256x512 0#32)

/-- What the partner lane at distance `2 ^ s` holds: the lanes rotated either way, chosen by the bit. -/
def across {α : Type} (s : Nat) (v : S256x512.Idx → α) : S256x512.Idx → α :=
  select (clear (BitVec.ofNat 32 (dist s)))
    (concatenate S256x512 1 [⟨Lanes (512 - dist s), extractStridedSlice _ ![0, dist s] v (fits s).tail⟩,
      ⟨Lanes (dist s), extractStridedSlice _ ![0, 0] v (fits s).head⟩] (fits s).left)
    (concatenate S256x512 1 [⟨Lanes (dist s), extractStridedSlice _ ![0, 512 - dist s] v (fits s).last⟩,
      ⟨Lanes (512 - dist s), extractStridedSlice _ ![0, 0] v (fits s).init⟩] (fits s).right)

/-- The lanes that take the lesser key at stage `s` of level `l`. -/
def takeMin (l s : Nat) : IVec S256x512 1 :=
  if l = 8 then clear (BitVec.ofNat 32 (dist s))
  else xori (xori (clear (BitVec.ofNat 32 (2 ^ (l + 1)))) (clear (BitVec.ofNat 32 (dist s)))) (constantI S256x512 1 1#1)

variable {F : FTy → Type} [FloatOps F]

/-- The lanes that take their partner's pair at stage `s` of level `l`. -/
def moves (l s : Nat) (keys : FVec F S256x512 .f32) : IVec S256x512 1 :=
  ori (andi (takeMin l s) (cmpf .olt (across s keys) keys))
    (andi (xori (takeMin l s) (constantI S256x512 1 1#1)) (cmpf .ogt (across s keys) keys))

/-- Stage `s` of level `l` on the keys and the positions that travel with them. -/
def exchange (p : FVec F S256x512 .f32 × IVec S256x512 32) (ls : Nat × Nat) : FVec F S256x512 .f32 × IVec S256x512 32 :=
  (select (moves ls.1 ls.2 p.1) (across ls.2 p.1) p.1, select (moves ls.1 ls.2 p.1) (across ls.2 p.2) p.2)

/-- The stages in order: level `l` runs its stages from `l` down to `0`. -/
def schedule : List (Nat × Nat) := (List.range 9).flatMap fun l => (List.range (l + 1)).reverse.map fun s => (l, s)

/-- The whole sort of a block of scores. -/
def sorted (score : FVec F S256x512 .f32) : FVec F S256x512 .f32 × IVec S256x512 32 :=
  schedule.foldl exchange (score, lanes)

/-- The scores of a block of points, from the four codebook tables. -/
def scoreOf (x : Vec F S256x8 .f32) (g : Vec F S64x512 .f32) (b : Vec F S8x512 .f32) (q ld : Vec F S1x512 .f32) : FVec F S256x512 .f32 :=
  k0_pay273 x (iota .tc S8x64 32 [0] iota_S8x64_d0_w32) k0_pay269 8#32 k0_pay270 k0_pay271 k0_pay272 0#32 g b q ld

end Cert.Proof

end
-- ==== Proof.Score.lean ====
/- The scores of a block at a place. -/
module

public import proofs.«01_k».proof.Proof.Lanes
public import proofs.«01_k».proof.Proof.Stage
public import Idealize.ShloMosaic.Lib.Pointwise

@[expose] public section

set_option maxRecDepth 16384

noncomputable section

namespace Cert.Proof

open Idealize.ShloMosaic Idealize.ShloMosaic.TcCoe Cert.KernelIdeal Cert.KernelIdeal.Gen

/-- The table whose column `a` picks coordinate `a % 8`. -/
def picksLow : FVec Ideal S8x64 .f32 :=
  sitofp .f32 (extui 32 (cmpi .eq (select (andi (xori k0_pay272 (broadcastTo S8x64 (broadcast S8x64 (Scalar.cmpi .slt 8#32 0#32)) broadcasts_S8x64_S8x64)) k0_pay271)
    (addi k0_pay270 (broadcast S8x64 8#32)) k0_pay270) (iota .tc S8x64 32 [0] iota_S8x64_d0_w32)) natLt_1_32)

/-- The scores from the two picking tables and the four prepared ones. -/
def combine (x : FVec Ideal S256x8 .f32) (u v : FVec Ideal S8x64 .f32) (g : FVec Ideal S64x512 .f32) (b : FVec Ideal S8x512 .f32) (q ld : FVec Ideal S1x512 .f32) :
    FVec Ideal S256x512 .f32 :=
  addf (addf (subf
      (matmul dot_S256x64_S64x512_S256x512_1_0_0_1_n_n none
        (mulf (matmul dot_S256x8_S8x64_S256x64_1_0_0_1_n_n (some .fp32) x u (constant S256x64 .f32 0x00000000#32))
          (matmul dot_S256x8_S8x64_S256x64_1_0_0_1_n_n (some .fp32) x v (constant S256x64 .f32 0x00000000#32))) g (constant S256x512 .f32 0x00000000#32))
      (mulf (broadcast S256x512 (Scalar.ofBits .f32 0x40000000#32))
        (matmul dot_S256x8_S8x512_S256x512_1_0_0_1_n_n none x b (constant S256x512 .f32 0x00000000#32))))
    (broadcastTo S256x512 (relaid q) broadcasts_S1x512_S256x512))
    (broadcastTo S256x512 (relaid ld) broadcasts_S1x512_S256x512)

theorem scoreOf_eq (x : FVec Ideal S256x8 .f32) (g : FVec Ideal S64x512 .f32) (b : FVec Ideal S8x512 .f32) (q ld : FVec Ideal S1x512 .f32) :
    scoreOf x g b q ld = combine x k0_pay269 picksLow g b q ld := rfl

/-- Column `a` of the first table is the unit at `a / 8`. -/
theorem picksHigh_apply (d : Fin 8) (a : Fin 64) : (k0_pay269 : FVec Ideal S8x64 .f32) (ix2 d a) = if a.val / 8 = d.val then 1 else 0 := by
  have h : ∀ (d : Fin 8) (a : Fin 64), ∃ w : BitVec 32, (k0_pay269 : FVec Ideal S8x64 .f32) (ix2 d a) = ((w.toInt : ℝ) : EReal)
      ∧ w = if a.val / 8 = d.val then 1#32 else 0#32 := by
    intro d a
    refine ⟨_, rfl, ?_⟩
    revert d a
    decide +kernel
  obtain ⟨w, e, hw⟩ := h d a
  rw [e, hw]
  split <;> simp

/-- Column `a` of the second is the unit at `a % 8`. -/
theorem picksLow_apply (d : Fin 8) (a : Fin 64) : picksLow (ix2 d a) = if a.val % 8 = d.val then 1 else 0 := by
  have h : ∀ (d : Fin 8) (a : Fin 64), ∃ w : BitVec 32, picksLow (ix2 d a) = ((w.toInt : ℝ) : EReal)
      ∧ w = if a.val % 8 = d.val then 1#32 else 0#32 := by
    intro d a
    refine ⟨_, rfl, ?_⟩
    revert d a
    decide +kernel
  obtain ⟨w, e, hw⟩ := h d a
  rw [e, hw]
  split <;> simp

theorem combine_apply (x : FVec Ideal S256x8 .f32) (u v : FVec Ideal S8x64 .f32) (g : FVec Ideal S64x512 .f32) (b : FVec Ideal S8x512 .f32) (q ld : FVec Ideal S1x512 .f32)
    (r : Fin 256) (k : Fin 512) : combine x u v g b q ld (ix2 r k)
      = (∑ a : Fin 64, (∑ d : Fin 8, x (ix2 r d) * u (ix2 d a)) * (∑ d : Fin 8, x (ix2 r d) * v (ix2 d a)) * g (ix2 a k))
        - Ideal.ofBits .f32 0x40000000#32 * (∑ d : Fin 8, x (ix2 r d) * b (ix2 d k)) + q (ix2 0 k) + ld (ix2 0 k) := by
  pointwise [combine, relaid]

/-- The score of point `x` against the inverse `g`, the shift `b`, the quadratic form `q` and the logarithm `l`. -/
def scoreFrom (x : Nat → EReal) (g : Nat → Nat → EReal) (b : Nat → EReal) (q l : EReal) : EReal :=
  (∑ d : Fin 8, ∑ e : Fin 8, x d * x e * g d e) - ((2 : ℝ) : EReal) * (∑ d : Fin 8, x d * b d) + q + l

theorem sum_pairs (f : Nat → Nat → EReal) : ∑ a : Fin 64, f (a.val / 8) (a.val % 8) = ∑ d : Fin 8, ∑ e : Fin 8, f d e := by
  rw [← Fintype.sum_prod_type' (f := fun (d e : Fin 8) => f d e)]
  refine (Fintype.sum_equiv (finProdFinEquiv (m := 8) (n := 8)) _ _ fun p => ?_).symm
  have h1 : (finProdFinEquiv p).val = p.2.val + 8 * p.1.val := rfl
  rw [h1, show (p.2.val + 8 * p.1.val) / 8 = p.1.val by omega, show (p.2.val + 8 * p.1.val) % 8 = p.2.val by omega]

/-- A block's scores at row `r` and lane `k`. -/
theorem scoreOf_apply {x : FVec Ideal S256x8 .f32} {g : FVec Ideal S64x512 .f32} {b : FVec Ideal S8x512 .f32} {q ld : FVec Ideal S1x512 .f32}
    (r : Fin 256) (k : Fin 512) {x' : Nat → EReal} {g' : Nat → Nat → EReal} {b' : Nat → EReal} {q' l' : EReal}
    (hx : ∀ d : Fin 8, x (ix2 r d) = x' d) (hg : ∀ a : Fin 64, g (ix2 a k) = g' (a.val / 8) (a.val % 8))
    (hb : ∀ d : Fin 8, b (ix2 d k) = b' d) (hq : q (ix2 0 k) = q') (hl : ld (ix2 0 k) = l') :
    scoreOf (F := Ideal) x g b q ld (ix2 r k) = scoreFrom x' g' b' q' l' := by
  rw [scoreOf_eq, combine_apply, hq, hl, ofBits_two_f32]
  have hu : ∀ a : Fin 64, ∑ d : Fin 8, x (ix2 r d) * (k0_pay269 : FVec Ideal S8x64 .f32) (ix2 d a) = x' (a.val / 8) := fun a => by
    rw [Finset.sum_eq_single (⟨a.val / 8, by omega⟩ : Fin 8)]
    · rw [picksHigh_apply, if_pos rfl, mul_one, hx]
    · intro d _ hd
      rw [picksHigh_apply, if_neg (fun h => hd (Fin.ext h.symm)), mul_zero]
    · intro h; exact absurd (Finset.mem_univ _) h
  have hv : ∀ a : Fin 64, ∑ d : Fin 8, x (ix2 r d) * picksLow (ix2 d a) = x' (a.val % 8) := fun a => by
    rw [Finset.sum_eq_single (⟨a.val % 8, by omega⟩ : Fin 8)]
    · rw [picksLow_apply, if_pos rfl, mul_one, hx]
    · intro d _ hd
      rw [picksLow_apply, if_neg (fun h => hd (Fin.ext h.symm)), mul_zero]
    · intro h; exact absurd (Finset.mem_univ _) h
  simp only [hu, hv, hb, hg]
  rw [sum_pairs fun d e => x' d * x' e * g' d e, scoreFrom]
  simp only [hx]

end Cert.Proof

end
-- ==== Proof.Given.lean ====
/- The arguments, numbered, and the score of a point and a cluster. -/
module

public import proofs.«01_k».proof.Proof.Score

@[expose] public section

noncomputable section

namespace Cert.Proof

open Idealize.ShloMosaic Finset

/-- The arguments: the points, the centres, the covariances. -/
structure Args where
  x : FVec Ideal (⟨2, ![65536, 8]⟩ : Shape) .f32
  mu : FVec Ideal (⟨2, ![512, 8]⟩ : Shape) .f32
  var : FVec Ideal (⟨3, ![512, 8, 8]⟩ : Shape) .f32

namespace Args

variable (A : Args)

/-- Coordinate `d` of point `n`. -/
def point (n : Fin 65536) (d : Nat) : EReal := if h : d < 8 then A.x (ix2 n ⟨d, h⟩) else 0
/-- Coordinate `d` of centre `k`. -/
def centre (k : Fin 512) (d : Nat) : EReal := if h : d < 8 then A.mu (ix2 k ⟨d, h⟩) else 0
/-- Entry (`d`, `e`) of covariance `k`, the entries numbered `8 d + e`. -/
def cov (k : Fin 512) (d e : Nat) : EReal :=
  if h : 8 * d + e < 64 then A.var (ix3 k ⟨(8 * d + e) / 8, by omega⟩ ⟨(8 * d + e) % 8, by omega⟩) else 0

theorem point_eq (n : Fin 65536) (d : Fin 8) : A.x (ix2 n d) = A.point n d := by
  rw [Args.point, dif_pos d.isLt]

theorem centre_eq (k : Fin 512) (d : Fin 8) : A.mu (ix2 k d) = A.centre k d := by
  rw [Args.centre, dif_pos d.isLt]

theorem cov_eq (k : Fin 512) (d e : Fin 8) : A.var (ix3 k d e) = A.cov k d e := by
  rw [Args.cov, dif_pos (by omega)]
  exact congrArg₂ (fun a b => A.var (ix3 k a b)) (Fin.ext (by show d.val = _ / 8; omega)) (Fin.ext (by show e.val = _ % 8; omega))

/-- Every covariance is symmetric. -/
def Symmetric : Prop := ∀ k, ∀ i < 8, ∀ j < 8, A.cov k i j = A.cov k j i

/-- No pivot is negative. -/
def Nonneg : Prop := ∀ k, ∀ p < 8, 0 ≤ pivot (A.cov k) p

/-- Entry (`d`, `e`) of what elimination leaves for the inverse of covariance `k`. -/
def inv (k : Fin 512) (d e : Nat) : EReal := elim (A.cov k) 8 d (8 + e)
/-- The inverse of covariance `k` times its centre. -/
def pulled (k : Fin 512) (d : Nat) : EReal := ∑ e : Fin 8, A.inv k d e * A.centre k e
/-- The score of point `n` and cluster `k`: the squared distance and the logarithm of the determinant. -/
def score (n : Fin 65536) (k : Fin 512) : EReal :=
  scoreFrom (A.point n) (A.inv k) (A.pulled k) (∑ d : Fin 8, A.centre k d * A.pulled k d) (logs (A.cov k))

end Args

end Cert.Proof

end
-- ==== Proof.Elim.lean ====
/- The reference's elimination, step by step. -/
module

public import proofs.«01_k».proof.Proof.Given
public import proofs.«01_k».proof.Proof.Gen.ReferenceIdeal
public import Idealize.ShloMosaic.Lib.Pointwise

@[expose] public section

set_option maxRecDepth 16384

noncomputable section

namespace Cert.Proof.Ref

open Idealize.ShloMosaic Cert.ReferenceIdeal Cert.ReferenceIdeal.Gen

variable {F : FTy → Type} [FloatOps F]

/-- The entry, the row and the column at `p`, of an array of 512 matrices of eight rows and sixteen columns, lie in it. -/
theorem slices_diag (p : Nat) (h : p < 8) : S512x8x16.Slices ![0, p, p] S512x1x1 := by
  have : ∀ p : Fin 8, S512x8x16.Slices ![0, p.val, p.val] S512x1x1 := by decide
  exact this ⟨p, h⟩
theorem slices_row (p : Nat) (h : p < 8) : S512x8x16.Slices ![0, p, 0] S512x1x16 := by
  have : ∀ p : Fin 8, S512x8x16.Slices ![0, p.val, 0] S512x1x16 := by decide
  exact this ⟨p, h⟩
theorem slices_col (p : Nat) (h : p < 8) : S512x8x16.Slices ![0, 0, p] S512x8x1 := by
  have : ∀ p : Fin 8, S512x8x16.Slices ![0, 0, p.val] S512x8x1 := by decide
  exact this ⟨p, h⟩

/-- The pivots at `p`. -/
def diag (p : Nat) (h : p < 8) (M : FVec F S512x8x16 .f32) : FVec F S512 .f32 :=
  shapeCast S512 (extractStridedSlice S512x1x1 ![0, p, p] M (slices_diag p h)) shapeCasts_S512x1x1_S512

/-- Row `p` divided by its pivot. -/
def scaled (p : Nat) (h : p < 8) (M : FVec F S512x8x16 .f32) : FVec F S512x16 .f32 :=
  Host.divf (shapeCast S512x16 (extractStridedSlice S512x1x16 ![0, p, 0] M (slices_row p h)) shapeCasts_S512x1x16_S512x16)
    (broadcastInDim S512x16 ![0, 1] bcast_S512x1_S512x16_0_1 (broadcastInDim S512x1 ![0] bcast_S512_S512x1_0 (diag p h M)))

/-- One row for every row of the matrix. -/
def spread (v : FVec F S512x16 .f32) : FVec F S512x8x16 .f32 :=
  broadcastInDim S512x8x16 ![0, 1, 2] bcast_S512x1x16_S512x8x16_0_1_2 (broadcastInDim S512x1x16 ![0, 2] bcast_S512x16_S512x1x16_0_2 v)

/-- Column `p` for every column. -/
def column (p : Nat) (h : p < 8) (M : FVec F S512x8x16 .f32) : FVec F S512x8x16 .f32 :=
  broadcastInDim S512x8x16 ![0, 1, 2] bcast_S512x8x1_S512x8x16_0_1_2 (broadcastInDim S512x8x1 ![0, 1] bcast_S512x8_S512x8x1_0_1
    (shapeCast S512x8 (extractStridedSlice S512x8x1 ![0, 0, p] M (slices_col p h)) shapeCasts_S512x8x1_S512x8))

/-- Marks row `p`. -/
def marked (p : Nat) : IVec S512x8x16 1 :=
  broadcastInDim S512x8x16 ![0, 1, 2] bcast_S1x8x1_S512x8x16_0_1_2 (broadcastInDim S1x8x1 ![1] bcast_S8_S1x8x1_1
    (cmpi .eq (iotaInDim S8 32 0) (broadcastInDim S8 ![] bcast_S_S8 (constantI S_ 32 (BitVec.ofNat 32 p)))))

/-- Step `p`. -/
def step (p : Nat) (h : p < 8) (M : FVec F S512x8x16 .f32) : FVec F S512x8x16 .f32 :=
  select (marked p) (spread (scaled p h M)) (subf M (mulf (column p h M) (spread (scaled p h M))))

/-- The identity matrices. -/
def units : FVec F S512x8x8 .f32 :=
  broadcastInDim S512x8x8 ![1, 2] bcast_S8x8_S512x8x8_1_2 (uitofp .f32 (cmpi .eq (addi (iotaInDim S8x8 32 0) (broadcastInDim S8x8 ![] bcast_S_S8x8 (constantI S_ 32 0#32))) (iotaInDim S8x8 32 1)))

/-- The matrices beside the identity. -/
def start (a : FVec F S512x8x8 .f32) : FVec F S512x8x16 .f32 :=
  concatenate S512x8x16 2 [⟨S512x8x8, a⟩, ⟨S512x8x8, units⟩] concatenates_S512x8x8_S512x8x8_S512x8x16_d2

/-- The matrices after the first `n` steps. -/
def eliminated (a : FVec F S512x8x8 .f32) : (n : Nat) → n ≤ 8 → FVec F S512x8x16 .f32
  | 0, _ => start a
  | n + 1, h => step n h (eliminated a n (Nat.le_of_succ_le h))

/-- The pivots of step `p`. -/
def pivots (a : FVec F S512x8x8 .f32) (p : Nat) (h : p < 8) : FVec F S512 .f32 := diag p h (eliminated a p h.le)

/-- The inverses, the right halves that the eight steps leave. -/
def inverses (a : FVec F S512x8x8 .f32) : FVec F S512x8x8 .f32 :=
  extractStridedSlice S512x8x8 ![0, 0, 8] (eliminated a 8 (le_refl _)) slices_S512x8x16_S512x8x8_0_0_8

/-! ## Read at a place -/

theorem diag_apply (p : Nat) (h : p < 8) (M : FVec Ideal S512x8x16 .f32) (k : Fin 512) :
    diag p h M (ix1 k) = M (ix3 k ⟨p, h⟩ ⟨p, by omega⟩) := by
  have e : diag p h M (ix1 k) = extractStridedSlice S512x1x1 ![0, p, p] M (slices_diag p h) (ix3 k 0 0) := by
    unfold diag; generalize extractStridedSlice S512x1x1 ![0, p, p] M (slices_diag p h) = v; pointwise
  rw [e]
  refine extractStridedSlice_apply _ _ _ _ (ix3 k (⟨p, h⟩ : Fin 8) (⟨p, by omega⟩ : Fin 16)) fun b => ?_
  match b with
  | ⟨0, _⟩ => exact (Nat.zero_add _).symm
  | ⟨1, _⟩ => rfl
  | ⟨2, _⟩ => rfl

theorem scaled_apply (p : Nat) (h : p < 8) (M : FVec Ideal S512x8x16 .f32) (k : Fin 512) (j : Fin 16) :
    scaled p h M (ix2 k j) = Ideal.div (M (ix3 k ⟨p, h⟩ j)) (M (ix3 k ⟨p, h⟩ ⟨p, by omega⟩)) := by
  have e : scaled p h M (ix2 k j) = Ideal.div (extractStridedSlice S512x1x16 ![0, p, 0] M (slices_row p h) (ix3 k 0 j)) (diag p h M (ix1 k)) := by
    unfold scaled; generalize extractStridedSlice S512x1x16 ![0, p, 0] M (slices_row p h) = v; generalize diag p h M = w; pointwise
  rw [e, diag_apply]
  refine congrArg (Ideal.div · _) (extractStridedSlice_apply _ _ _ _ (ix3 k (⟨p, h⟩ : Fin 8) j) fun b => ?_)
  match b with
  | ⟨0, _⟩ => exact (Nat.zero_add _).symm
  | ⟨1, _⟩ => rfl
  | ⟨2, _⟩ => exact (Nat.zero_add _).symm

theorem spread_apply (v : FVec Ideal S512x16 .f32) (k : Fin 512) (i : Fin 8) (j : Fin 16) : spread v (ix3 k i j) = v (ix2 k j) := by
  unfold spread; pointwise

theorem column_apply (p : Nat) (h : p < 8) (M : FVec Ideal S512x8x16 .f32) (k : Fin 512) (i : Fin 8) (j : Fin 16) :
    column p h M (ix3 k i j) = M (ix3 k i ⟨p, by omega⟩) := by
  have e : column p h M (ix3 k i j) = extractStridedSlice S512x8x1 ![0, 0, p] M (slices_col p h) (ix3 k i 0) := by
    unfold column; generalize extractStridedSlice S512x8x1 ![0, 0, p] M (slices_col p h) = v; pointwise
  rw [e]
  refine extractStridedSlice_apply _ _ _ _ (ix3 k i (⟨p, by omega⟩ : Fin 16)) fun b => ?_
  match b with
  | ⟨0, _⟩ => exact (Nat.zero_add _).symm
  | ⟨1, _⟩ => exact (Nat.zero_add _).symm
  | ⟨2, _⟩ => rfl

theorem marked_apply (p : Nat) (h : p < 8) (k : Fin 512) (i : Fin 8) (j : Fin 16) : marked p (ix3 k i j) = BitVec.ofBool (decide (i.val = p)) := by
  have e : marked p (ix3 k i j) = IntOp.cmpi .eq (BitVec.ofNat 32 i.val) (BitVec.ofNat 32 p) := by
    unfold marked; pointwise
  rw [e]
  have : ∀ i p : Fin 8, IntOp.cmpi .eq (BitVec.ofNat 32 i.val) (BitVec.ofNat 32 p.val) = BitVec.ofBool (decide (i.val = p.val)) := by decide
  exact this i ⟨p, h⟩

/-- One step at a place. -/
theorem step_apply (p : Nat) (h : p < 8) (M : FVec Ideal S512x8x16 .f32) (k : Fin 512) (i : Fin 8) (j : Fin 16) :
    step p h M (ix3 k i j) = if i.val = p then Ideal.div (M (ix3 k ⟨p, h⟩ j)) (M (ix3 k ⟨p, h⟩ ⟨p, by omega⟩))
      else (M (ix3 k i j) - M (ix3 k i ⟨p, by omega⟩) * Ideal.div (M (ix3 k ⟨p, h⟩ j)) (M (ix3 k ⟨p, h⟩ ⟨p, by omega⟩)) : EReal) := by
  show Scalar.select (marked p (ix3 k i j)) (spread (scaled p h M) (ix3 k i j))
    (M (ix3 k i j) - column p h M (ix3 k i j) * spread (scaled p h M) (ix3 k i j) : EReal) = _
  rw [marked_apply p h, spread_apply, scaled_apply, column_apply, Scalar.select_ofBool]
  simp only [decide_eq_true_eq]

theorem units_apply (k : Fin 512) (i j : Fin 8) : (units : FVec Ideal S512x8x8 .f32) (ix3 k i j) = (if j.val = i.val then 1 else 0 : EReal) := by
  have h : ∀ (i j : Fin 8), ∃ w : BitVec 1, (uitofp .f32 (cmpi .eq (addi (iotaInDim S8x8 32 0) (broadcastInDim S8x8 ![] bcast_S_S8x8 (constantI S_ 32 0#32))) (iotaInDim S8x8 32 1)) : FVec Ideal S8x8 .f32) (ix2 i j)
      = ((w.toNat : ℝ) : EReal) ∧ w = BitVec.ofBool (decide (j.val = i.val)) := by
    intro i j
    refine ⟨_, rfl, ?_⟩
    revert i j
    decide +kernel
  obtain ⟨w, e, hw⟩ := h i j
  have eu : (units : FVec Ideal S512x8x8 .f32) (ix3 k i j) = (uitofp .f32 (cmpi .eq (addi (iotaInDim S8x8 32 0) (broadcastInDim S8x8 ![] bcast_S_S8x8 (constantI S_ 32 0#32))) (iotaInDim S8x8 32 1)) : FVec Ideal S8x8 .f32) (ix2 i j) := by
    unfold units
    generalize (uitofp .f32 (cmpi .eq (addi (iotaInDim S8x8 32 0) (broadcastInDim S8x8 ![] bcast_S_S8x8 (constantI S_ 32 0#32))) (iotaInDim S8x8 32 1)) : FVec Ideal S8x8 .f32) = v
    pointwise
  rw [eu, e, hw]
  by_cases c : j.val = i.val <;> simp [c]

/-- The start at a place. -/
theorem start_apply {a : FVec Ideal S512x8x8 .f32} {V : Nat → Nat → EReal} (k : Fin 512) (hV : ∀ i j : Fin 8, a (ix3 k i j) = V i j) (i : Fin 8) (j : Fin 16) :
    start a (ix3 k i j) = elim V 0 i j := by
  show concatenate S512x8x16 2 [⟨S512x8x8, a⟩, ⟨S512x8x8, units⟩] concatenates_S512x8x8_S512x8x8_S512x8x16_d2 (ix3 k i j) = _
  by_cases h : j.val < 8
  · refine (concatenate_pair_apply_left (s₁ := S512x8x8) (s₂ := S512x8x8) 2 _ _ _ (ix3 k i j) rfl (ix3 k i (⟨j.val, h⟩ : Fin 8)) ?_).trans ?_
    · intro b; match b with | ⟨0, _⟩ => rfl | ⟨1, _⟩ => rfl | ⟨2, _⟩ => rfl
    · rw [hV, elim, if_pos h]
  · have hj : j.val - 8 < 8 := by omega
    refine (concatenate_pair_apply_right (s₁ := S512x8x8) (s₂ := S512x8x8) 2 _ _ _ (ix3 k i j) rfl rfl (ix3 k i (⟨j.val - 8, hj⟩ : Fin 8)) ?_ ?_).trans ?_
    · intro b hb; match b with | ⟨0, _⟩ => rfl | ⟨1, _⟩ => rfl | ⟨2, _⟩ => exact absurd rfl hb
    · show j.val - 8 + 8 = j.val; omega
    · rw [units_apply, elim, if_neg h]
      refine if_congr ?_ rfl rfl
      show j.val - 8 = i.val ↔ j.val = 8 + i.val
      omega

/-- The matrix `k` after `n` steps. -/
theorem eliminated_apply {a : FVec Ideal S512x8x8 .f32} {V : Nat → Nat → EReal} (k : Fin 512) (hV : ∀ i j : Fin 8, a (ix3 k i j) = V i j) :
    ∀ (n : Nat) (h : n ≤ 8) (i : Fin 8) (j : Fin 16), eliminated a n h (ix3 k i j) = elim V n i j
  | 0, _, i, j => start_apply k hV i j
  | n + 1, h, i, j => by
    have ih := eliminated_apply k hV n (by omega)
    show step n h _ (ix3 k i j) = _
    rw [step_apply]
    simp only [ih]
    rw [elim]

theorem pivots_apply {a : FVec Ideal S512x8x8 .f32} {V : Nat → Nat → EReal} (k : Fin 512) (hV : ∀ i j : Fin 8, a (ix3 k i j) = V i j) (p : Nat) (h : p < 8) :
    pivots a p h (ix1 k) = pivot V p :=
  (diag_apply p h _ k).trans (eliminated_apply k hV p h.le ⟨p, h⟩ ⟨p, by omega⟩)

theorem inverses_apply {a : FVec Ideal S512x8x8 .f32} {V : Nat → Nat → EReal} (k : Fin 512) (hV : ∀ i j : Fin 8, a (ix3 k i j) = V i j) (d e : Fin 8) :
    inverses a (ix3 k d e) = elim V 8 d (8 + e) := by
  refine (extractStridedSlice_apply _ _ _ _ (ix3 k d (⟨8 + e.val, by omega⟩ : Fin 16)) fun b => ?_).trans
    (eliminated_apply k hV 8 (le_refl _) d ⟨8 + e.val, by omega⟩)
  match b with
  | ⟨0, _⟩ => exact (Nat.zero_add _).symm
  | ⟨1, _⟩ => exact (Nat.zero_add _).symm
  | ⟨2, _⟩ => rfl

end Cert.Proof.Ref

end
-- ==== Proof.Nll.lean ====
/- The reference's values, half of the score and a constant. -/
module

public import proofs.«01_k».proof.Proof.Elim
public import Idealize.ShloMosaic.Lib.Pointwise

@[expose] public section

set_option maxRecDepth 16384

noncomputable section

namespace Cert.Proof.Ref

open Idealize.ShloMosaic Cert.ReferenceIdeal Cert.ReferenceIdeal.Gen

variable {F : FTy → Type} [FloatOps F]

/-- The logarithms of the first `n` pivots' absolute values, added up. -/
def logs (a : FVec F S512x8x8 .f32) : (n : Nat) → n ≤ 8 → FVec F S512 .f32
  | 0, _ => broadcastInDim S512 ![] bcast_S_S512 (constant S_ .f32 0x00000000#32)
  | n + 1, h => addf (logs a n (Nat.le_of_succ_le h)) (Host.log (Host.absf (pivots a n h)))

/-- A row of 512 for every point. -/
def perCluster (v : FVec F S512 .f32) : FVec F S65536x512 .f32 :=
  broadcastInDim S65536x512 ![0, 1] bcast_S1x512_S65536x512_0_1 (broadcastInDim S1x512 ![1] bcast_S512_S1x512_1 v)

/-- A constant everywhere. -/
def everywhere (w : BitVec 32) : FVec F S65536x512 .f32 := broadcastInDim S65536x512 ![] bcast_S_S65536x512 (constant S_ .f32 w)

/-- The point against the inverse against the point. -/
def quadPoint (x : FVec F S65536x8 .f32) (g : FVec F S512x8x8 .f32) : FVec F S65536x512 .f32 :=
  Host.dotGeneral dot_S65536x512x8_S65536x8_S65536x512_2_1_1_n_0_0 none (Host.dotGeneral dot_S65536x8_S512x8x8_S65536x512x8_1_1_0_02_n_n none x g) x
/-- The point against the inverse against the centre. -/
def quadMixed (x : FVec F S65536x8 .f32) (mu : FVec F S512x8 .f32) (g : FVec F S512x8x8 .f32) : FVec F S65536x512 .f32 :=
  Host.dotGeneral dot_S65536x8_S512x8_S65536x512_1_1_0_0_n_n none x (Host.dotGeneral dot_S512x8x8_S512x8_S512x8_2_1_1_n_0_0 none g mu)
/-- The centre against the inverse against the centre. -/
def quadCentre (mu : FVec F S512x8 .f32) (g : FVec F S512x8x8 .f32) : FVec F S512 .f32 :=
  Host.dotGeneral dot_S512x8_S512x8_S512_1_1_n_n_0_0 none mu (Host.dotGeneral dot_S512x8_S512x8x8_S512x8_1_1_n_2_0_0 none mu g)

/-- The values of every point and cluster. -/
def nll (x : FVec F S65536x8 .f32) (mu : FVec F S512x8 .f32) (a : FVec F S512x8x8 .f32) : FVec F S65536x512 .f32 :=
  mulf (everywhere 0x3F000000#32) (addf (addf (addf (subf (quadPoint x (inverses a)) (mulf (everywhere 0x40000000#32) (quadMixed x mu (inverses a))))
    (perCluster (quadCentre mu (inverses a)))) (perCluster (logs a 8 (le_refl _)))) (everywhere 0x416B3F8E#32))

theorem perCluster_apply (v : FVec Ideal S512 .f32) (n : Fin 65536) (k : Fin 512) : perCluster v (ix2 n k) = v (ix1 k) := by
  unfold perCluster; pointwise

theorem everywhere_apply (w : BitVec 32) (n : Fin 65536) (k : Fin 512) : (everywhere w : FVec Ideal S65536x512 .f32) (ix2 n k) = Ideal.ofBits .f32 w := rfl

theorem quadPoint_apply (x : FVec Ideal S65536x8 .f32) (g : FVec Ideal S512x8x8 .f32) (n : Fin 65536) (k : Fin 512) :
    quadPoint x g (ix2 n k) = (∑ e : Fin 8, (∑ d : Fin 8, x (ix2 n d) * g (ix3 k d e)) * x (ix2 n e) : EReal) := by
  unfold quadPoint; pointwise

theorem quadMixed_apply (x : FVec Ideal S65536x8 .f32) (mu : FVec Ideal S512x8 .f32) (g : FVec Ideal S512x8x8 .f32) (n : Fin 65536) (k : Fin 512) :
    quadMixed x mu g (ix2 n k) = (∑ d : Fin 8, x (ix2 n d) * ∑ e : Fin 8, g (ix3 k d e) * mu (ix2 k e) : EReal) := by
  unfold quadMixed; pointwise

theorem quadCentre_apply (mu : FVec Ideal S512x8 .f32) (g : FVec Ideal S512x8x8 .f32) (k : Fin 512) :
    quadCentre mu g (ix1 k) = (∑ e : Fin 8, mu (ix2 k e) * ∑ d : Fin 8, mu (ix2 k d) * g (ix3 k d e) : EReal) := by
  unfold quadCentre; pointwise

theorem ofBits_half : Ideal.ofBits .f32 0x3F000000#32 = ((1 / 2 : ℝ) : EReal) := by
  simp [Ideal.ofBits, Ideal.ieee, -EReal.coe_mul]; norm_num

/-- The constant of the values. -/
def offset : ℝ := EReal.toReal (Ideal.ofBits .f32 0x416B3F8E#32)

theorem ofBits_offset : Ideal.ofBits .f32 0x416B3F8E#32 = (offset : EReal) := by
  have h : ∃ r : ℝ, Ideal.ofBits .f32 0x416B3F8E#32 = (r : EReal) := by
    refine ⟨14.7030162811279296875, ?_⟩
    simp [Ideal.ofBits, Ideal.ieee, -EReal.coe_mul]; norm_num
  obtain ⟨r, hr⟩ := h
  rw [offset, hr, EReal.toReal_coe]

/-- The value of a score. -/
def valueOf (s : EReal) : EReal := ((1 / 2 : ℝ) : EReal) * (s + offset)

/-- What is not negative is its own absolute value. -/
theorem abs_of_nonneg {y : EReal} (h : 0 ≤ y) : max y (-y) = y := max_eq_left ((EReal.neg_le_zero.mpr h).trans h)

variable (A : Args) (hn : A.Nonneg)

include hn in
theorem logs_apply (k : Fin 512) : ∀ (n : Nat) (h : n ≤ 8), logs A.var n h (ix1 k) = (∑ j ∈ Finset.range n, Ideal.log (pivot (A.cov k) j) : EReal)
  | 0, _ => Ideal.ofBits_zero_f32
  | n + 1, h => by
    show (logs A.var n _ (ix1 k) + Ideal.log (max (pivots A.var n h (ix1 k) : EReal) (-(pivots A.var n h (ix1 k) : EReal))) : EReal) = _
    rw [logs_apply k n (by omega), pivots_apply k (A.cov_eq k) n h, abs_of_nonneg (hn k n h), Finset.sum_range_succ]

/-- The square of point `n` against cluster `k`, as the reference associates it. -/
def square (n : Fin 65536) (k : Fin 512) : EReal := ∑ e : Fin 8, (∑ d : Fin 8, A.point n d * A.inv k d e) * A.point n e

include hn in
/-- The value of point `n` and cluster `k`, as the reference associates it. -/
theorem nll_eq (n : Fin 65536) (k : Fin 512) : nll A.x A.mu A.var (ix2 n k)
    = valueOf (square A n k - ((2 : ℝ) : EReal) * (∑ d : Fin 8, A.point n d * A.pulled k d)
        + (∑ e : Fin 8, A.centre k e * ∑ d : Fin 8, A.centre k d * A.inv k d e) + Proof.logs (A.cov k)) := by
  show ((everywhere 0x3F000000#32 : FVec Ideal S65536x512 .f32) (ix2 n k) * ((quadPoint A.x (inverses A.var) (ix2 n k)
    - (everywhere 0x40000000#32 : FVec Ideal S65536x512 .f32) (ix2 n k) * quadMixed A.x A.mu (inverses A.var) (ix2 n k)
    + perCluster (quadCentre A.mu (inverses A.var)) (ix2 n k)) + perCluster (logs A.var 8 (le_refl _)) (ix2 n k)
    + (everywhere 0x416B3F8E#32 : FVec Ideal S65536x512 .f32) (ix2 n k)) : EReal) = _
  have hg : ∀ d e : Fin 8, inverses A.var (ix3 k d e) = A.inv k d e := inverses_apply k (A.cov_eq k)
  rw [perCluster_apply, perCluster_apply, logs_apply A hn, quadCentre_apply, quadMixed_apply, quadPoint_apply]
  simp only [everywhere_apply, ofBits_half, ofBits_two_f32, ofBits_offset, hg, A.point_eq, A.centre_eq]
  rfl

/-- It has no logarithm's bottom, or the inverse is real and symmetric and its diagonal is positive unless the logarithm
    is infinite. -/
def Sound (k : Fin 512) : Prop :=
  (∀ d < 8, ∀ e < 8, IsReal (A.inv k d e)) ∧ (∀ d < 8, ∀ e < 8, A.inv k d e = A.inv k e d)
    ∧ (Proof.logs (A.cov k) = ⊤ ∨ ∀ d < 8, 0 < A.inv k d d)

theorem bot_or_sound (hs : A.Symmetric) (k : Fin 512) : Proof.logs (A.cov k) = ⊥ ∨ Sound A k := by
  rcases prepared _ (hs k) with ⟨_, h⟩ | ⟨_, _, h1, h2, h3⟩
  · exact Or.inl h
  · exact Or.inr ⟨h1, h2, h3⟩

variable {A}
include hn

/-- The value of a real point `n` and cluster `k`. -/
theorem nll_apply (hs : A.Symmetric) (n : Fin 65536) (hx : ∀ d : Fin 8, IsReal (A.point n d)) (k : Fin 512) :
    nll A.x A.mu A.var (ix2 n k) = valueOf (A.score n k) := by
  rw [nll_eq A hn, Args.score, scoreFrom]
  rcases bot_or_sound A hs k with h | ⟨hr, hsym, _⟩
  · rw [h, EReal.add_bot, EReal.add_bot]
  · have h1 : square A n k = ∑ d : Fin 8, ∑ e : Fin 8, A.point n d * A.point n e * A.inv k d e := by
      choose x' hx' using hx
      choose g' hg' using fun d e : Fin 8 => hr d d.isLt e e.isLt
      unfold square
      simp only [hx', hg', ← EReal.coe_mul, coe_sum]
      refine congrArg _ ?_
      simp only [Finset.sum_mul]
      rw [Finset.sum_comm]
      exact Finset.sum_congr rfl fun d _ => Finset.sum_congr rfl fun e _ => by ring
    have h2 : (∑ e : Fin 8, A.centre k e * ∑ d : Fin 8, A.centre k d * A.inv k d e) = ∑ d : Fin 8, A.centre k d * A.pulled k d :=
      Finset.sum_congr rfl fun e _ => congrArg (A.centre k e * ·) (Finset.sum_congr rfl fun d _ => by
        rw [mul_comm, hsym d d.isLt e e.isLt])
    rw [h1, h2]

/-- A point that is not real has no real values. -/
theorem nll_not_real (hs : A.Symmetric) (n : Fin 65536) (hx : ¬∀ d : Fin 8, IsReal (A.point n d)) (k : Fin 512) :
    ¬IsReal (nll A.x A.mu A.var (ix2 n k)) := by
  rw [nll_eq A hn]
  intro h
  obtain ⟨h, hl⟩ := isReal_of_add (isReal_of_add (isReal_of_half h)).1
  rcases bot_or_sound A hs k with c | ⟨hr, _, ht | hpos⟩
  · exact hl.ne_bot c
  · exact hl.ne_top ht
  · obtain ⟨h, _⟩ := isReal_of_sub (isReal_of_add h).1
    refine hx fun e => ?_
    have h := isReal_of_sum h (Finset.mem_univ e)
    by_contra c
    refine not_isReal_mul ?_ c h
    intro hi
    have hi := isReal_of_sum hi (Finset.mem_univ e)
    obtain ⟨g, hg⟩ := hr e e.isLt e e.isLt
    have hp := hpos e e.isLt
    rw [hg] at hp hi
    exact c (isReal_of_mul_pos hp hi)

/-- A point at distinct values from the clusters is real. -/
theorem real_of_distinct (hs : A.Symmetric) (n : Fin 65536) (hi : Function.Injective fun k => nll A.x A.mu A.var (ix2 n k)) :
    ∀ d : Fin 8, IsReal (A.point n d) := by
  by_contra hx
  have h := nll_not_real hn hs n hx
  have hv : ∀ k, (nll A.x A.mu A.var (ix2 n k) : EReal) = ⊤ ∨ (nll A.x A.mu A.var (ix2 n k) : EReal) = ⊥ := fun k => by
    by_contra c
    rw [not_or] at c
    exact h k (IsReal.of_ne c.1 c.2)
  have h01 : (0 : Fin 512) ≠ 1 := by decide
  have h02 : (0 : Fin 512) ≠ 2 := by decide
  have h12 : (1 : Fin 512) ≠ 2 := by decide
  rcases hv 0 with a | a <;> rcases hv 1 with b | b <;> rcases hv 2 with c | c
  · exact h01 (hi (a.trans b.symm))
  · exact h01 (hi (a.trans b.symm))
  · exact h02 (hi (a.trans c.symm))
  · exact h12 (hi (b.trans c.symm))
  · exact h12 (hi (b.trans c.symm))
  · exact h02 (hi (a.trans c.symm))
  · exact h01 (hi (a.trans b.symm))
  · exact h01 (hi (a.trans b.symm))

end Cert.Proof.Ref

end
-- ==== Proof.Order.lean ====
/- The host's sorts of a row, and the one order that lists distinct entries increasingly. -/
module

public import proofs.«01_k».proof.Proof.Gen.ReferenceIdeal
public import Idealize.ShloMosaic.Lib.SortFacts
public import Idealize.ShloMosaic.Lib.Pointwise
public import Mathlib.Order.WellFounded

@[expose] public section

set_option maxRecDepth 16384

noncomputable section

namespace Cert.Proof

open Idealize.ShloMosaic

/-- `σ` lists a point's clusters by a function, the least first. -/
def Lists (f : Fin 512 → EReal) (σ : Equiv.Perm (Fin 512)) : Prop := Monotone (f ∘ σ)

/-- Two such lists of distinct entries are one. -/
theorem Lists.unique {f : Fin 512 → EReal} (hf : Function.Injective f) {σ τ : Equiv.Perm (Fin 512)} (hs : Lists f σ) (ht : Lists f τ) : σ = τ := by
  have h1 : StrictMono (f ∘ σ) := hs.strictMono_of_injective (hf.comp σ.injective)
  have h2 : StrictMono (f ∘ τ) := ht.strictMono_of_injective (hf.comp τ.injective)
  have h := (h1.range_inj h2).mp (by rw [Set.range_comp, Set.range_comp, σ.range_eq_univ, τ.range_eq_univ])
  exact Equiv.ext fun i => hf (congrFun h i)

/-- A list by a function is one by any increasing function of it. -/
theorem Lists.comp {f : Fin 512 → EReal} {σ : Equiv.Perm (Fin 512)} (h : Lists f σ) {g : EReal → EReal} (hg : Monotone g) : Lists (fun i => g (f i)) σ :=
  fun _ _ hab => hg (h hab)

/-- Where one entry sorts before another. -/
def before {m : Nat} (f : Fin m → EReal) (k k' : Fin m) : Bool := decide (f k < f k')

/-- The host's sort by that lists a row, of any length. -/
theorem sorted_row {m : Nat} (f : Fin m → EReal) : ∃ τ : Equiv.Perm (Fin m), Monotone (f ∘ τ) ∧ ∀ i, sortedFrom (before f) i = τ i := by
  refine ⟨Equiv.ofBijective (sortedFrom (before f)) ⟨sortedFrom_injective (before f), sortedFrom_surjective (before f)⟩, ?_, fun _ => rfl⟩
  intro i j hij
  show f (sortedFrom (before f) i) ≤ f (sortedFrom (before f) j)
  rcases hij.lt_or_eq with h | h
  · have := sortedFrom_noInversion (before f) (before f) (fun a b h => decide_eq_false (not_lt.mpr (of_decide_eq_true h).le)) (fun _ _ h => h)
      (fun a b c h h' => decide_eq_false (not_lt.mpr ((not_lt.mp (of_decide_eq_false h')).trans (not_lt.mp (of_decide_eq_false h))))) i j h
    exact not_lt.mp (of_decide_eq_false this)
  · rw [h]

/-- The printed comparison of two floats is theirs: the zeros agree, and no entry differs from itself. -/
theorem compare_eq (l r : EReal) :
    (FloatOps.cmpfTotal (F := Ideal) (φ := .f32) .lt
      (Scalar.select (FloatOps.cmpf (F := Ideal) (φ := .f32) .une l l) (FloatOps.ofBits (F := Ideal) .f32 0x7FC00000#32)
        (Scalar.select (FloatOps.cmpf (F := Ideal) (φ := .f32) .oeq l (FloatOps.ofBits (F := Ideal) .f32 0x00000000#32)) (FloatOps.ofBits (F := Ideal) .f32 0x00000000#32) l))
      (Scalar.select (FloatOps.cmpf (F := Ideal) (φ := .f32) .une r r) (FloatOps.ofBits (F := Ideal) .f32 0x7FC00000#32)
        (Scalar.select (FloatOps.cmpf (F := Ideal) (φ := .f32) .oeq r (FloatOps.ofBits (F := Ideal) .f32 0x00000000#32)) (FloatOps.ofBits (F := Ideal) .f32 0x00000000#32) r)))
      = BitVec.ofBool (decide (l < r)) := by
  have hn : ∀ v : EReal, FloatOps.cmpf (F := Ideal) (φ := .f32) .une v v = BitVec.ofBool false := fun v => by
    show BitVec.ofBool (decide (v ≠ v)) = _
    rw [decide_eq_false (fun h => h rfl)]
  have hz : ∀ v z : EReal, Scalar.select (FloatOps.cmpf (F := Ideal) (φ := .f32) .oeq v z) z v = v := fun v z => by
    show Scalar.select (BitVec.ofBool (decide (v = z))) z v = v
    rw [Scalar.select_ofBool]
    by_cases h : v = z <;> simp [h]
  rw [hn, hn, Scalar.select_ofBool, Scalar.select_ofBool, hz, hz]
  rfl

/-- A place moved along its row. -/
theorem along_row (n : Fin 65536) (i k : Fin 512) :
    Shape.Idx.along (s := (⟨2, ![65536, 512]⟩ : Shape)) (ix2 n i) 1 k = ix2 n k := by
  funext a
  match a with
  | ⟨0, _⟩ => rfl
  | ⟨1, _⟩ => rfl

variable {x : FVec Ideal (⟨2, ![65536, 512]⟩ : Shape) .f32} {f : Fin 65536 → Fin 512 → EReal} (hx : ∀ n k, x (ix2 n k) = f n k)
include hx

/-- What a sort along the rows reads, by a comparison of the entries. -/
theorem sortBy_row {ι α : Type} (cmp : ι → ι → BitVec 1) (rows : (⟨2, ![65536, 512]⟩ : Shape).Idx → ι) (y : (⟨2, ![65536, 512]⟩ : Shape).Idx → α)
    (hc : ∀ i j, cmp (rows i) (rows j) = BitVec.ofBool (decide ((x i : EReal) < x j))) :
    ∃ τ : Fin 65536 → Equiv.Perm (Fin 512), (∀ n, Lists (f n) (τ n)) ∧ ∀ n i, Host.sortBy (⟨2, ![65536, 512]⟩ : Shape) 1 cmp rows y (ix2 n i) = y (ix2 n (τ n i)) := by
  choose τ h1 h2 using fun n => sorted_row (f n)
  refine ⟨τ, h1, fun n i => ?_⟩
  unfold Host.sortBy
  rw [dif_pos (show 1 < (⟨2, ![65536, 512]⟩ : Shape).rank by decide)]
  have hb : (fun k k' : Fin 512 => cmp (rows (Shape.Idx.along (s := (⟨2, ![65536, 512]⟩ : Shape)) (ix2 n i) 1 k)) (rows (Shape.Idx.along (s := (⟨2, ![65536, 512]⟩ : Shape)) (ix2 n i) 1 k')) == 1#1) = before (f n) := by
    funext k k'
    rw [hc, along_row, along_row, hx, hx]
    unfold before
    by_cases h : f n k < f n k' <;> simp [h]
  show y (Shape.Idx.along (s := (⟨2, ![65536, 512]⟩ : Shape)) (ix2 n i) 1 (sortedFrom (fun k k' : Fin 512 => cmp (rows (Shape.Idx.along (s := (⟨2, ![65536, 512]⟩ : Shape)) (ix2 n i) 1 k)) (rows (Shape.Idx.along (s := (⟨2, ![65536, 512]⟩ : Shape)) (ix2 n i) 1 k')) == 1#1) i)) = _
  refine (congrArg (fun b : Fin 512 → Fin 512 → Bool => y (Shape.Idx.along (s := (⟨2, ![65536, 512]⟩ : Shape)) (ix2 n i) 1 (sortedFrom b i))) hb).trans ?_
  exact congrArg y ((congrArg (fun q : Fin 512 => Shape.Idx.along (s := (⟨2, ![65536, 512]⟩ : Shape)) (ix2 n i) 1 q) (h2 n i)).trans (along_row n i _))

/-- A row whose sorted entries increase strictly has distinct entries. -/
theorem injective_of_sorted {τ : Fin 65536 → Equiv.Perm (Fin 512)} (h : ∀ n (i : Fin 511), f n (τ n ⟨i.val, by omega⟩) < f n (τ n ⟨i.val + 1, by omega⟩)) (n : Fin 65536) :
    Function.Injective (f n) := by
  have hs : StrictMono (fun i => f n (τ n i)) := Fin.strictMono_iff_lt_succ.mpr fun i => h n i
  have : Function.Injective (f n ∘ τ n) := hs.injective
  exact (Function.Injective.of_comp_iff' (f n) (τ n).bijective).mp this

end Cert.Proof

end
-- ==== Proof.Gathered.lean ====
/- The mean of the first gathered values: the reference's second result from its values and positions. -/
module

public import proofs.«01_k».proof.Proof.Nll
public import proofs.«01_k».proof.Proof.Order

@[expose] public section

set_option maxRecDepth 16384

noncomputable section

namespace Cert.Proof.Ref

open Idealize.ShloMosaic Cert.ReferenceIdeal Cert.ReferenceIdeal.Gen

variable {F : FTy → Type} [FloatOps F]

/-- The positions, the negative ones counted from the end of the row. -/
def wrapped (p : IVec S65536x512 32) : IVec S65536x512x1 32 :=
  shapeCast S65536x512x1 (select (cmpi .slt p (broadcastInDim S65536x512 ![] bcast_S_S65536x512 (constantI S_ 32 0#32)))
    (addi p (broadcastInDim S65536x512 ![] bcast_S_S65536x512 (constantI S_ 32 512#32))) p) shapeCasts_S65536x512_S65536x512x1

/-- Which positions lie in the row. -/
def inside (p : IVec S65536x512x1 32) : IVec S65536x512 1 :=
  Host.reduce IntOp.andi (andi (cmpi .sge p (broadcastInDim S65536x512x1 ![] bcast_S_S65536x512x1 (constantI S_ 32 0#32)))
    (cmpi .sle p (broadcastInDim S65536x512x1 ![0, 1, 2] bcast_S1x1x1_S65536x512x1_0_1_2 (broadcastInDim S1x1x1 ![2] bcast_S1_S1x1x1_2 (constantI S1 32 511#32)))))
    (constantI S_ 1 1#1) reducesTo_S65536x512x1_S65536x512_d2 h_S_

/-- The values at the positions, and not a number outside the row. -/
def taken (v : FVec F S65536x512 .f32) (p : IVec S65536x512 32) : FVec F S65536x512 .f32 :=
  select (inside (wrapped p)) (Host.gather gather_S65536x512_S65536x512x1_S65536x512_n_1_0_0_1_2_11 v (wrapped p))
    (broadcastInDim S65536x512 ![] bcast_S_S65536x512 (constant S_ .f32 0x7FC00000#32))

/-- The mean of the first column. -/
def meanFirst (v : FVec F S65536x512 .f32) : FVec F S_ .f32 :=
  Host.divf (Host.reduceAdd (shapeCast S65536 (extractStridedSlice S65536x1 ![0, 0] v slices_S65536x512_S65536x1_0_0) shapeCasts_S65536x1_S65536)
    (constant S_ .f32 0x00000000#32) reducesTo_S65536_S_d0 h_S_) (constant S_ .f32 0x47800000#32)

/-- A position in the row stays as it is. -/
theorem wrapped_apply (p : IVec S65536x512 32) (n : Fin 65536) (i : Fin 512) (q : Fin 512) (h : p (ix2 n i) = BitVec.ofNat 32 q.val) :
    wrapped p (ix3 n i 0) = BitVec.ofNat 32 q.val := by
  have e : wrapped p (ix3 n i 0) = Scalar.select (IntOp.cmpi .slt (p (ix2 n i)) 0#32) (IntOp.addi (p (ix2 n i)) 512#32) (p (ix2 n i)) := by
    unfold wrapped; pointwise
  rw [e, h]
  have : ∀ q : Fin 512, Scalar.select (IntOp.cmpi .slt (BitVec.ofNat 32 q.val) 0#32) (IntOp.addi (BitVec.ofNat 32 q.val) 512#32) (BitVec.ofNat 32 q.val) = BitVec.ofNat 32 q.val := by
    decide +kernel
  exact this q

theorem inside_apply (p : IVec S65536x512x1 32) (n : Fin 65536) (i : Fin 512) (q : Fin 512) (h : p (ix3 n i 0) = BitVec.ofNat 32 q.val) :
    inside p (ix2 n i) = 1#1 := by
  unfold inside
  pointwise
  have hq : ∀ q : Fin 512, IntOp.andi (IntOp.cmpi .sge (BitVec.ofNat 32 q.val) 0#32) (IntOp.cmpi .sle (BitVec.ofNat 32 q.val) 511#32) = 1#1 := by
    decide +kernel
  rw [show (Finset.univ : Finset (Fin 1)) = {0} from rfl, Finset.fold_singleton, h, hq]
  rfl

/-- The dimension numbers of a reading along the rows. -/
abbrev along : GatherDims S65536x512 S65536x512x1 S65536x512 := gather_S65536x512_S65536x512x1_S65536x512_n_1_0_0_1_2_11

/-- The dimension numbers' source place: the row itself, the position read off the indices. -/
theorem gathered_apply (v : FVec Ideal S65536x512 .f32) (p : IVec S65536x512x1 32) (n : Fin 65536) (i : Fin 512) (q : Fin 512)
    (h : p (ix3 n i 0) = BitVec.ofNat 32 q.val) :
    Host.gather gather_S65536x512_S65536x512x1_S65536x512_n_1_0_0_1_2_11 v p (ix2 n i) = v (ix2 n q) := by
  unfold Host.gather
  refine congrArg v (funext fun (a : Fin 2) => Fin.ext ?_)
  show along.start (ix2 n i) p a + along.batchCoord (ix2 n i) a + along.offCoord (ix2 n i) a = _
  have ha : a = 0 ∨ a = 1 := by
    match a with
    | ⟨0, _⟩ => exact Or.inl rfl
    | ⟨1, _⟩ => exact Or.inr rfl
  rcases ha with rfl | rfl
  · have hb : (0 : Fin 2) ∈ along.operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    show 0 + n.val + 0 = n.val
    omega
  · have hc : (1 : Fin 2) ∈ along.startIndexMap := List.mem_singleton.mpr rfl
    have hd : (1 : Fin 2) ∈ along.collapsedSliceDims := List.mem_singleton.mpr rfl
    have hb : (1 : Fin 2) ∉ along.operandBatchingDims := by show (1 : Fin 2) ∉ ([0] : List (Fin 2)); decide
    rw [GatherDims.batchCoord_eq_zero _ _ _ hb, GatherDims.offCoord_eq_zero _ _ _ (fun h => ((GatherDims.mem_sKept _ _).mp h).1 hd)]
    unfold GatherDims.start
    rw [dif_pos hc]
    have hs : ∀ z, along.siIdx (ix2 n i) z = ix3 n i 0 := fun z => by
      funext b
      match b with
      | ⟨0, _⟩ => rfl
      | ⟨1, _⟩ => rfl
      | ⟨2, _⟩ => exact Subsingleton.elim (α := Fin 1) _ _
    rw [hs, h]
    have : ∀ q : Fin 512, min (BitVec.ofNat 32 q.val).toInt.toNat 511 = q.val := by decide +kernel
    exact this q

theorem taken_apply (v : FVec Ideal S65536x512 .f32) (p : IVec S65536x512 32) (n : Fin 65536) (i : Fin 512) (q : Fin 512) (h : p (ix2 n i) = BitVec.ofNat 32 q.val) :
    taken v p (ix2 n i) = v (ix2 n q) := by
  have hw := wrapped_apply p n i q h
  unfold taken
  generalize (broadcastInDim S65536x512 ![] bcast_S_S65536x512 (constant S_ .f32 0x7FC00000#32) : FVec Ideal S65536x512 .f32) = w
  have hi := inside_apply _ n i q hw
  have hg := gathered_apply v _ n i q hw
  generalize inside (wrapped p) = a at *
  generalize Host.gather along v (wrapped p) = g at *
  show Scalar.select (a (ix2 n i)) (g (ix2 n i)) (w (ix2 n i)) = _
  rw [hi, hg]
  rfl

theorem ofBits_rows : Ideal.ofBits .f32 0x47800000#32 = ((65536 : ℝ) : EReal) := by
  simp [Ideal.ofBits, Ideal.ieee, -EReal.coe_mul]; norm_num

theorem meanFirst_apply (v : FVec Ideal S65536x512 .f32) (j : S_.Idx) :
    meanFirst v j = (((1 / 65536 : ℝ) : EReal) * ∑ n : Fin 65536, v (ix2 n 0) : EReal) := by
  have e : meanFirst v j = Ideal.div (∑ n : Fin 65536, v (ix2 n 0) : EReal) (Ideal.ofBits .f32 0x47800000#32) := by
    unfold meanFirst; pointwise
  rw [e, ofBits_rows, Ideal.div_coe (by norm_num), mul_comm]

end Cert.Proof.Ref

end
-- ==== Proof.RefResult.lean ====
/- The reference's two results: each point's clusters by value, and the mean of the least values. -/
module

public import proofs.«01_k».proof.Proof.Gathered
public import proofs.«01_k».proof.Proof.Gen.ReferenceIdeal.Run
public import Idealize.ShloMosaic.Lib.Tactic

@[expose] public section

set_option maxRecDepth 16384

noncomputable section

namespace Cert.Proof.Ref

open Idealize.ShloMosaic Idealize.ShloMosaic.TcCoe Idealize.SL.Sem Cert.ReferenceIdeal Cert.ReferenceIdeal.Gen Cert.ReferenceIdeal.Value
open Idealize.ShloMosaic.StableHlo

/-- The reference's positions from its values. -/
def places {F : FTy → Type} [FloatOps F] (v : FVec F S65536x512 .f32) : IVec S65536x512 32 :=
  (Host.sort2 S65536x512 1 comparator_f32_i32_d1 v (iotaInDim S65536x512 32 1)).2

/-- The positions list every point's clusters by value. -/
theorem places_apply {v : FVec Ideal S65536x512 .f32} {f : Fin 65536 → Fin 512 → EReal} (hv : ∀ n k, v (ix2 n k) = f n k) :
    ∃ τ : Fin 65536 → Equiv.Perm (Fin 512), (∀ n, Lists (f n) (τ n)) ∧ ∀ n i, places v (ix2 n i) = BitVec.ofNat 32 (τ n i).val := by
  obtain ⟨τ, h1, h2⟩ := sortBy_row hv comparator_f32_i32_d1 (fun j => (v j, iotaInDim S65536x512 32 1 j)) (iotaInDim S65536x512 32 1) fun i j => compare_eq _ _
  refine ⟨τ, h1, fun n i => ?_⟩
  unfold places
  rw [Host.sort2_eq_sortBy]
  exact h2 n i

variable (m : (ℓ : Loc nD τ sig) → Buf (Elt Ideal) ℓ) (c : Dev nD)

/-- The reference's arguments. -/
def given : Args := ⟨m ((c.tc : Thread nD τ).loc main_arg0), m ((c.tc : Thread nD τ).loc main_arg1), m ((c.tc : Thread nD τ).loc main_arg2)⟩

/-- The values that the run names are those. -/
theorem values_eq : res_main_v220 (launchContents m c) = nll (given m c).x (given m c).mu (given m c).var := by
  sl_kernel_rfl

theorem places_eq : res_main_v221 (launchContents m c) = places (nll (given m c).x (given m c).mu (given m c).var) := by
  unfold res_main_v221; rw [values_eq]; rfl

/-- The reference's run, read: its positions and the mean of its first gathered values. -/
theorem run_read (ρ : Dev nD → PrngReg) : θ_run defs (onTc (τ := τ) (main (F := Ideal))) ⟨m, fun _ => 0, ρ⟩ fun r => ∀ c : Dev nD,
      r.2.mem ((c.tc : Thread nD τ).loc main_v221) = places (nll (given m c).x (given m c).mu (given m c).var)
      ∧ r.2.mem ((c.tc : Thread nD τ).loc main_v226) = meanFirst (taken (nll (given m c).x (given m c).mu (given m c).var) (places (nll (given m c).x (given m c).mu (given m c).var)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (places_eq m c), (h c).2.1.trans (by
    unfold res_main_call9_v5
    rw [places_eq, values_eq]
    rfl), (h c).2.2⟩) (Cert.ReferenceIdeal.Value.run (F := Ideal) m ρ)

/-- The two results by the orders of the values. -/
theorem reference_results {A : Args} (hn : A.Nonneg) (hs : A.Symmetric) (hx : ∀ n (d : Fin 8), IsReal (A.point n d)) :
    ∃ σ : Fin 65536 → Equiv.Perm (Fin 512), (∀ n, Lists (fun k => valueOf (A.score n k)) (σ n))
      ∧ (∀ n i, places (nll A.x A.mu A.var) (ix2 n i) = BitVec.ofNat 32 (σ n i).val)
      ∧ ∀ j, meanFirst (taken (nll A.x A.mu A.var) (places (nll A.x A.mu A.var))) j
          = (((1 / 65536 : ℝ) : EReal) * ∑ n, valueOf (A.score n (σ n 0)) : EReal) := by
  have hv : ∀ n k, nll A.x A.mu A.var (ix2 n k) = valueOf (A.score n k) := fun n => nll_apply hn hs n (hx n)
  obtain ⟨σ, h1, h2⟩ := places_apply hv
  refine ⟨σ, h1, h2, fun j => (meanFirst_apply _ j).trans (congrArg (((1 / 65536 : ℝ) : EReal) * ·) (Finset.sum_congr rfl fun n _ => ?_))⟩
  rw [taken_apply _ _ n 0 (σ n 0) (h2 n 0), hv]

end Cert.Proof.Ref

end
-- ==== Proof.Admissible.lean ====
/- What the precondition says of the arguments: covariances symmetric, pivots not negative, distinct values in a row. -/
module

public import proofs.«01_k».proof.Proof.RefResult
public import proofs.«01_k».proof.Pre_admissible
public import Idealize.ShloMosaic.Lib.Tactic

@[expose] public section

set_option maxRecDepth 16384

noncomputable section

namespace Cert.Proof

open Idealize.ShloMosaic

/-- The shape relations of the precondition hold. -/
theorem admissible_facts : Cert.Pre_admissible.Facts := by
  constructor <;> decide

section
open Cert.Pre_admissible Cert.Pre_admissible.Facts

variable [Cert.Pre_admissible.Facts] {F : FTy → Type} [FloatOps F]

/-- Where the covariances equal their transposes. -/
def symmetric (a : FVec F S512x8x8 .f32) : IVec S512x8x8 1 := cmpf .oeq a (transpose S512x8x8 [0, 2, 1] a transposes_S512x8x8_S512x8x8_0_2_1)

/-- Where each sorted row increases strictly. -/
def increasing (v : FVec F S65536x512 .f32) : IVec S65536x511 1 :=
  cmpf .olt (extractStridedSlice S65536x511 ![0, 0] (Host.sort S65536x512 1 comparator_f32_d1 v) slices_S65536x512_S65536x511_0_0)
    (extractStridedSlice S65536x511 ![0, 1] (Host.sort S65536x512 1 comparator_f32_d1 v) slices_S65536x512_S65536x511_0_1)

/-- Where a vector is not negative. -/
def nonneg (v : FVec F S512 .f32) : IVec S512 1 := cmpf .oge v (broadcastInDim S512 ![] bcast_S_S512 (constant S_ .f32 0x00000000#32))

/-- The precondition's parts. -/
theorem parts_eq (x : FVec F S65536x8 .f32) (mu : FVec F S512x8 .f32) (a : FVec F S512x8x8 .f32) :
    Cert.Pre_admissible.fn x mu a = (symmetric a, increasing (Ref.nll x mu a),
      nonneg (Ref.pivots a 0 (by decide)), nonneg (Ref.pivots a 1 (by decide)), nonneg (Ref.pivots a 2 (by decide)), nonneg (Ref.pivots a 3 (by decide)),
      nonneg (Ref.pivots a 4 (by decide)), nonneg (Ref.pivots a 5 (by decide)), nonneg (Ref.pivots a 6 (by decide)), nonneg (Ref.pivots a 7 (by decide))) := by
  sl_kernel_rfl

/-- A vector that is not negative, read at a place. -/
theorem nonneg_apply {v : FVec Ideal S512 .f32} (h : nonneg v = fun _ => 1#1) (k : Fin 512) : (0 : EReal) ≤ v (ix1 k) := by
  have e : BitVec.ofBool (decide (Ideal.ofBits .f32 0x00000000#32 ≤ (v (ix1 k) : EReal))) = 1#1 := congrFun h (ix1 k)
  have hz : Ideal.ofBits .f32 0x00000000#32 = (0 : EReal) := Ideal.ofBits_zero_f32
  rw [hz] at e
  by_contra n; rw [decide_eq_false n] at e; exact absurd e (by decide)

/-- Equal transposes, read at a place. -/
theorem symmetric_apply {a : FVec Ideal S512x8x8 .f32} (h : symmetric a = fun _ => 1#1) (k : Fin 512) (i j : Fin 8) : a (ix3 k i j) = a (ix3 k j i) := by
  have e := congrFun h (ix3 k i j)
  have t : transpose S512x8x8 [0, 2, 1] a transposes_S512x8x8_S512x8x8_0_2_1 (ix3 k i j) = a (ix3 k j i) := by pointwise
  replace e : BitVec.ofBool (decide ((a (ix3 k i j) : EReal) = transpose S512x8x8 [0, 2, 1] a transposes_S512x8x8_S512x8x8_0_2_1 (ix3 k i j))) = 1#1 := e
  rw [t] at e
  by_contra n; rw [decide_eq_false n] at e; exact absurd e (by decide)

/-- Strictly increasing sorted rows have distinct entries. -/
theorem increasing_injective {v : FVec Ideal S65536x512 .f32} (h : increasing v = fun _ => 1#1) (n : Fin 65536) :
    Function.Injective fun k : Fin 512 => v (ix2 n k) := by
  obtain ⟨τ, h1, h2⟩ := sortBy_row (f := fun n k => v (ix2 n k)) (fun _ _ => rfl) comparator_f32_d1 v v fun i j => compare_eq _ _
  refine injective_of_sorted (x := v) (f := fun n k => v (ix2 n k)) (fun _ _ => rfl) (τ := τ) (fun n i => ?_) n
  have e := congrFun h (ix2 n i)
  unfold increasing at e
  rw [Host.sort_eq_sortBy] at e
  generalize Host.sortBy S65536x512 1 comparator_f32_d1 v v = w at e h2
  have t0 : extractStridedSlice S65536x511 ![0, 0] w slices_S65536x512_S65536x511_0_0 (ix2 n i) = w (ix2 n ⟨i.val, by omega⟩) :=
    extractStridedSlice_apply _ _ _ _ _ fun b => match b with
      | ⟨0, _⟩ => (Nat.zero_add _).symm
      | ⟨1, _⟩ => (Nat.zero_add _).symm
  have t1 : extractStridedSlice S65536x511 ![0, 1] w slices_S65536x512_S65536x511_0_1 (ix2 n i) = w (ix2 n ⟨i.val + 1, by omega⟩) :=
    extractStridedSlice_apply _ _ _ _ _ fun b => match b with
      | ⟨0, _⟩ => (Nat.zero_add _).symm
      | ⟨1, _⟩ => Nat.add_comm _ _
  replace e : BitVec.ofBool (decide ((extractStridedSlice S65536x511 ![0, 0] w slices_S65536x512_S65536x511_0_0 (ix2 n i) : EReal)
    < extractStridedSlice S65536x511 ![0, 1] w slices_S65536x512_S65536x511_0_1 (ix2 n i))) = 1#1 := e
  rw [t0, t1, h2, h2] at e
  by_contra c; rw [decide_eq_false c] at e; exact absurd e (by decide)

end

/-- What the precondition gives: symmetric covariances, no negative pivots, real points, distinct values in a row. -/
structure Admits (A : Args) : Prop where
  symm : A.Symmetric
  nonneg : A.Nonneg
  point : ∀ n (d : Fin 8), IsReal (A.point n d)
  distinct : ∀ n, Function.Injective fun k => Ref.valueOf (A.score n k)

variable [Cert.Pre_admissible.Facts]

/-- It gives that. -/
theorem admits {A : Args} {b1 b2 p0 p1 p2 p3 p4 p5 p6 p7}
    (e : Cert.Pre_admissible.fn A.x A.mu A.var = (b1, b2, p0, p1, p2, p3, p4, p5, p6, p7))
    (h1 : b1 = fun _ => 1#1) (h2 : b2 = fun _ => 1#1) (g0 : p0 = fun _ => 1#1) (g1 : p1 = fun _ => 1#1) (g2 : p2 = fun _ => 1#1)
    (g3 : p3 = fun _ => 1#1) (g4 : p4 = fun _ => 1#1) (g5 : p5 = fun _ => 1#1) (g6 : p6 = fun _ => 1#1) (g7 : p7 = fun _ => 1#1) : Admits A := by
  rw [parts_eq] at e
  simp only [Prod.mk.injEq] at e
  obtain ⟨e1, e2, q0, q1, q2, q3, q4, q5, q6, q7⟩ := e
  have hp : ∀ p : Fin 8, nonneg (Ref.pivots A.var p.val p.isLt) = fun _ => 1#1 := fun p => match p with
    | ⟨0, _⟩ => q0.trans g0
    | ⟨1, _⟩ => q1.trans g1
    | ⟨2, _⟩ => q2.trans g2
    | ⟨3, _⟩ => q3.trans g3
    | ⟨4, _⟩ => q4.trans g4
    | ⟨5, _⟩ => q5.trans g5
    | ⟨6, _⟩ => q6.trans g6
    | ⟨7, _⟩ => q7.trans g7
  have hn : A.Nonneg := fun k p h => by
    have s := nonneg_apply (hp ⟨p, h⟩) k
    rwa [Ref.pivots_apply k (A.cov_eq k) p h] at s
  have hs : A.Symmetric := fun k i hi j hj => by
    have s := symmetric_apply (e1.trans h1) k ⟨i, hi⟩ ⟨j, hj⟩
    rwa [A.cov_eq, A.cov_eq] at s
  have hi := increasing_injective (e2.trans h2)
  have hx := fun n => Ref.real_of_distinct hn hs n (hi n)
  refine ⟨hs, hn, hx, fun n => ?_⟩
  have h := hi n
  simp only [Ref.nll_apply hn hs n (hx n)] at h
  exact h

end Cert.Proof

end
-- ==== Proof.Body.lean ====
/- What one grid point leaves: the sorted positions, and the running sum of the least scores. -/
module

public import proofs.«01_k».proof.Proof.Stage
public import proofs.«01_k».proof.Proof.Prep
public import proofs.«01_k».proof.Proof.Gen.KernelIdeal.Frame
public import Idealize.ShloMosaic.Lib.Pipeline.Value
public import Idealize.ShloMosaic.Lib.Tactic
public import Idealize.ShloMosaic.Lib.Pointwise.Tactic

@[expose] public section

set_option maxRecDepth 16384

noncomputable section

namespace Cert.Proof

open Idealize.ShloMosaic Idealize.ShloMosaic.TcCoe Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg1 : Memref sig .tc .vmem S256x8 .f32) (harg1 : arg1.IsWhole) (arg2 : Memref sig .tc .vmem S64x512 .f32) (harg2 : arg2.IsWhole) (arg3 : Memref sig .tc .vmem S8x512 .f32) (harg3 : arg3.IsWhole) (arg4 : Memref sig .tc .vmem S256x512 .i32) (harg4 : arg4.IsWhole) (arg5 : Memref sig .tc .smem S1x1 .f32) (harg5 : arg5.IsWhole) (arg6 : Memref sig .tc .vmem S64x512 .f32) (harg6 : arg6.IsWhole) (arg7 : Memref sig .tc .vmem S8x512 .f32) (harg7 : arg7.IsWhole) (arg8 : Memref sig .tc .vmem S2x512 .f32) (harg8 : arg8.IsWhole)

/-- Row `r` of the two-row table. -/
def row2 (t : Vec F S2x512 .f32) (r : Fin 2) : Vec F S1x512 .f32 := fun j => t (ix2 r (j 1))

theorem out_B3 (hc0 : ¬ cond0_0 i) (x0 : Vec F S256x8 .f32) (x1 : Vec F S64x512 .f32) (x2 : Vec F S8x512 .f32) (xo4 : Vec F S1x1 .f32) (xs0 : Vec F S64x512 .f32) (xs1 : Vec F S8x512 .f32) (xs2 : Vec F S2x512 .f32) :
    out0_B_3 c i arg1 harg1 arg2 harg2 arg3 harg3 arg4 harg4 arg5 harg5 arg6 harg6 arg7 harg7 arg8 harg8 hc0 x0 x1 x2 xo4 xs0 xs1 xs2
      = (sorted (scoreOf (View.readAt (Elt F) arg1.view (Rect.unit ![0, 0] S256x8.size inb_S256x8_S256x8_0_0).toLoadRect (harg1.unread x0)) (View.readAt (Elt F) arg6.view (Rect.unit ![0, 0] S64x512.size inb_S64x512_S64x512_0_0).toLoadRect (harg6.unread xs0)) (View.readAt (Elt F) arg7.view (Rect.unit ![0, 0] S8x512.size inb_S8x512_S8x512_0_0).toLoadRect (harg7.unread xs1)) (View.readAt (Elt F) arg8.view (Rect.unit (s := S2x512) ![0, 0] S1x512.size inb_S2x512_S1x512_0_0).toLoadRect (harg8.unread xs2)) (View.readAt (Elt F) arg8.view (Rect.unit (s := S2x512) ![1, 0] S1x512.size inb_S2x512_S1x512_1_0).toLoadRect (harg8.unread xs2)))).2 := by
  unfold out0_B_3
  rw [View.read_writes_junk_eq_canon]
  unfold kernelRun0_B
  dsimp only
  rw [View.canon_unit_zero hz]
  sl_kernel_rfl

/-- The sum of the least scores of a block, added to what was there. -/
def lossOf (keys : FVec F S256x512 .f32) (acc : F .f32) : F .f32 :=
  Scalar.addf acc (extractAt ![0, 0, 0] (shapeCast S1x1x1 (multiReduction .add [1, 2] S1 (shapeCast S1x256x1
    (extractStridedSlice S256x1 ![0, 0] keys slices_S256x512_o0_0_S256x1) shapeCasts_S256x1_S1x256x1) 0x00000000#32
    reduces_S1x256x1_S1 (.inl rfl) rfl) shapeCasts_S1_S1x1x1) inpos_S1x1x1_p0_0_0)

theorem out_B4 (hc0 : ¬ cond0_0 i) (x0 : Vec F S256x8 .f32) (x1 : Vec F S64x512 .f32) (x2 : Vec F S8x512 .f32) (xo4 : Vec F S1x1 .f32) (xs0 : Vec F S64x512 .f32) (xs1 : Vec F S8x512 .f32) (xs2 : Vec F S2x512 .f32) :
    out0_B_4 c i arg1 harg1 arg2 harg2 arg3 harg3 arg4 harg4 arg5 harg5 arg6 harg6 arg7 harg7 arg8 harg8 hc0 x0 x1 x2 xo4 xs0 xs1 xs2
      = fun _ => lossOf (sorted (scoreOf (View.readAt (Elt F) arg1.view (Rect.unit ![0, 0] S256x8.size inb_S256x8_S256x8_0_0).toLoadRect (harg1.unread x0)) (View.readAt (Elt F) arg6.view (Rect.unit ![0, 0] S64x512.size inb_S64x512_S64x512_0_0).toLoadRect (harg6.unread xs0)) (View.readAt (Elt F) arg7.view (Rect.unit ![0, 0] S8x512.size inb_S8x512_S8x512_0_0).toLoadRect (harg7.unread xs1)) (View.readAt (Elt F) arg8.view (Rect.unit (s := S2x512) ![0, 0] S1x512.size inb_S2x512_S1x512_0_0).toLoadRect (harg8.unread xs2)) (View.readAt (Elt F) arg8.view (Rect.unit (s := S2x512) ![1, 0] S1x512.size inb_S2x512_S1x512_1_0).toLoadRect (harg8.unread xs2)))).1 (View.readAt (Elt F) arg5.view (Rect.unit (s := S1x1) ![0, 0] ![1, 1] inb_S1x1_S1x1_0_0).toLoadRect (harg5.unread xo4) (Shape.Idx.first (by decide))) := by
  unfold out0_B_4
  rw [View.read_writes_junk_eq_canon]
  unfold kernelRun0_B
  dsimp only
  rw [View.canon_unit_zero hz]
  sl_kernel_rfl

/-- Row `n` of an array of `N` rows, as a rectangle, lies in it. -/
theorem inbRow {N n : Nat} (h : n < N) (a : Fin 2) : (![n, 0] : Fin 2 → Nat) a + S1x512.size a ≤ (⟨2, ![N, 512]⟩ : Shape).size a := by
  fin_cases a
  · show n + 1 ≤ N; omega
  · show 0 + 512 ≤ 512; omega

/-- The first `n` rows of an array, each stored by itself, the last one first. -/
def rowPieces (N : Nat) (f : Nat → FVec F S1x512 .f32) : (n : Nat) → n ≤ N → List (View.Piece (Elt F) (⟨2, ![N, 512]⟩ : Shape) .f32)
  | 0, _ => []
  | n + 1, h => ⟨Rect.unit ![n, 0] S1x512.size (inbRow h), f n⟩ :: rowPieces N f n (Nat.le_of_succ_le h)

/-- Row `n` of the covariances' table, `8 d + e` for entry (d, e). -/
def varRow (x1 : Vec F S64x512 .f32) (d e : Nat) : FVec F S1x512 .f32 :=
  if h : 8 * d + e < 64 then relaid (View.readAt (Elt F) arg2.view (Rect.unit (s := S64x512) ![8 * d + e, 0] S1x512.size (inbRow h)).toLoadRect (harg2.unread x1))
  else lanewise.zero

/-- Row `d` of the centres' table. -/
def muRow (x2 : Vec F S8x512 .f32) (d : Nat) : FVec F S1x512 .f32 :=
  if h : d < 8 then relaid (View.readAt (Elt F) arg3.view (Rect.unit (s := S8x512) ![d, 0] S1x512.size (inbRow h)).toLoadRect (harg3.unread x2))
  else lanewise.zero

/-- The stored rows of the inverse, of the shift and of the two constants. -/
def ginvRow (V : Nat → Nat → FVec F S1x512 .f32) (a : Nat) : FVec F S1x512 .f32 :=
  shapeCast S1x512 (lanewise.inverse V (a / 8) (a % 8)) shapeCasts_S1x512_S1x512
def gbRow (V : Nat → Nat → FVec F S1x512 .f32) (mu : Nat → FVec F S1x512 .f32) (a : Nat) : FVec F S1x512 .f32 :=
  shapeCast S1x512 (lanewise.shift V mu a) shapeCasts_S1x512_S1x512
def gcRow (V : Nat → Nat → FVec F S1x512 .f32) (mu : Nat → FVec F S1x512 .f32) (a : Nat) : FVec F S1x512 .f32 :=
  shapeCast S1x512 (if a = 0 then lanewise.quad V mu else lanewise.logdet V) shapeCasts_S1x512_S1x512

theorem pieces_ginv (x1 : Vec F S64x512 .f32) :
    kernelRun0_A.sl.HS0_64 c arg2 harg2 x1 = rowPieces 64 (ginvRow (varRow arg2 harg2 x1)) 64 (le_refl _) := by
  sl_kernel_rfl

theorem pieces_gb (x1 : Vec F S64x512 .f32) (x2 : Vec F S8x512 .f32) :
    kernelRun0_A.sl.HS1_8 c arg2 harg2 arg3 harg3 x1 x2 = rowPieces 8 (gbRow (varRow arg2 harg2 x1) (muRow arg3 harg3 x2)) 8 (le_refl _) := by
  sl_kernel_rfl

theorem pieces_gc (x1 : Vec F S64x512 .f32) (x2 : Vec F S8x512 .f32) :
    kernelRun0_A.sl.HS2_2 c arg2 harg2 arg3 harg3 x1 x2 = rowPieces 2 (gcRow (varRow arg2 harg2 x1) (muRow arg3 harg3 x2)) 2 (le_refl _) := by
  sl_kernel_rfl

/-- Rows `f 0, …, f (N - 1)` as one array. -/
def ofRows (N : Nat) (f : Nat → FVec F S1x512 .f32) : Vec F (⟨2, ![N, 512]⟩ : Shape) .f32 := fun j => f (j 0).val (ix2 0 (j 1))

/-- Every piece holds the rows it names, so together they hold the array. -/
theorem canon_rowPieces (N : Nat) (f : Nat → FVec F S1x512 .f32) : View.canon (rowPieces N f N (le_refl N)) = ofRows N f := by
  have hp : ∀ n (h : n ≤ N), (∀ p ∈ rowPieces N f n h, ∀ x : p.1.shape.Idx, p.2 x = ofRows N f (p.1.emb x)) := by
    intro n
    induction n with
    | zero => intro h p hp; simp [rowPieces] at hp
    | succ n ih =>
      intro h p hp
      rcases List.mem_cons.mp hp with rfl | hp'
      · intro x
        have h0 : (x 0).val = 0 := Nat.lt_one_iff.mp (x 0).isLt
        show f n x = f (n + 1 * (x 0).val) (ix2 0 _)
        rw [h0]
        refine congrArg (f n) (funext fun a => ?_)
        fin_cases a
        · exact Fin.ext h0
        · exact Fin.ext (by show (x 1).val = 0 + 1 * (x 1).val; omega)
      · exact ih _ p hp'
  have hc : ∀ n (h : n ≤ N) (y : (⟨2, ![N, 512]⟩ : Shape).Idx), (y 0).val < n → ∃ p ∈ rowPieces N f n h, y ∈ p.1.set := by
    intro n
    induction n with
    | zero => intro h y hy; omega
    | succ n ih =>
      intro h y hy
      by_cases e : (y 0).val = n
      · refine ⟨_, List.mem_cons_self, ?_⟩
        refine (Rect.mem_set_unit (inb := inbRow h)).mpr fun (a : Fin 2) => ?_
        fin_cases a
        · show n ≤ (y 0).val ∧ (y 0).val < n + 1; omega
        · exact ⟨Nat.zero_le _, by show (y 1).val < 0 + 512; have := (y 1).isLt; simpa using this⟩
      · obtain ⟨p, hp, hy'⟩ := ih (Nat.le_of_succ_le h) y (by omega)
        exact ⟨p, List.mem_cons_of_mem _ hp, hy'⟩
  funext y
  exact View.canon_apply_of_pieces _ _ (hp N _) y (hc N _ y (y 0).isLt)

theorem out_A3 (hc0 : cond0_0 i) (x0 : Vec F S256x8 .f32) (x1 : Vec F S64x512 .f32) (x2 : Vec F S8x512 .f32) :
    out0_A_3 c i arg1 harg1 arg2 harg2 arg3 harg3 arg4 harg4 arg5 harg5 arg6 harg6 arg7 harg7 arg8 harg8 hc0 x0 x1 x2
      = (sorted (scoreOf (View.readAt (Elt F) arg1.view (Rect.unit ![0, 0] S256x8.size inb_S256x8_S256x8_0_0).toLoadRect (harg1.unread x0))
        (arg6.view.readCov (kernelRun0_A.sl.HS0_64 c arg2 harg2 x1) (Rect.unit ![0, 0] S64x512.size inb_S64x512_S64x512_0_0).toLoadRect)
        (arg7.view.readCov (kernelRun0_A.sl.HS1_8 c arg2 harg2 arg3 harg3 x1 x2) (Rect.unit ![0, 0] S8x512.size inb_S8x512_S8x512_0_0).toLoadRect)
        (arg8.view.readCov (kernelRun0_A.sl.HS2_2 c arg2 harg2 arg3 harg3 x1 x2) (Rect.unit (s := S2x512) ![0, 0] S1x512.size inb_S2x512_S1x512_0_0).toLoadRect)
        (arg8.view.readCov (kernelRun0_A.sl.HS2_2 c arg2 harg2 arg3 harg3 x1 x2) (Rect.unit (s := S2x512) ![1, 0] S1x512.size inb_S2x512_S1x512_1_0).toLoadRect))).2 := by
  unfold out0_A_3
  rw [View.read_writes_junk_eq_canon]
  unfold kernelRun0_A
  dsimp only
  rw [View.canon_unit_zero hz]
  sl_kernel_rfl

theorem out_A4 (hc0 : cond0_0 i) (x0 : Vec F S256x8 .f32) (x1 : Vec F S64x512 .f32) (x2 : Vec F S8x512 .f32) :
    out0_A_4 c i arg1 harg1 arg2 harg2 arg3 harg3 arg4 harg4 arg5 harg5 arg6 harg6 arg7 harg7 arg8 harg8 hc0 x0 x1 x2
      = fun _ => lossOf (sorted (scoreOf (View.readAt (Elt F) arg1.view (Rect.unit ![0, 0] S256x8.size inb_S256x8_S256x8_0_0).toLoadRect (harg1.unread x0))
        (arg6.view.readCov (kernelRun0_A.sl.HS0_64 c arg2 harg2 x1) (Rect.unit ![0, 0] S64x512.size inb_S64x512_S64x512_0_0).toLoadRect)
        (arg7.view.readCov (kernelRun0_A.sl.HS1_8 c arg2 harg2 arg3 harg3 x1 x2) (Rect.unit ![0, 0] S8x512.size inb_S8x512_S8x512_0_0).toLoadRect)
        (arg8.view.readCov (kernelRun0_A.sl.HS2_2 c arg2 harg2 arg3 harg3 x1 x2) (Rect.unit (s := S2x512) ![0, 0] S1x512.size inb_S2x512_S1x512_0_0).toLoadRect)
        (arg8.view.readCov (kernelRun0_A.sl.HS2_2 c arg2 harg2 arg3 harg3 x1 x2) (Rect.unit (s := S2x512) ![1, 0] S1x512.size inb_S2x512_S1x512_1_0).toLoadRect))).1
        (Scalar.ofBits .f32 0x00000000#32) := by
  unfold out0_A_4
  rw [View.read_writes_junk_eq_canon]
  unfold kernelRun0_A
  dsimp only
  rw [View.canon_cons_unit_zero (S := S1x1) hz]
  sl_kernel_rfl

theorem sout_A0 (hc0 : cond0_0 i) (x0 : Vec F S256x8 .f32) (x1 : Vec F S64x512 .f32) (x2 : Vec F S8x512 .f32) :
    sout0_A_0 c i arg1 harg1 arg2 harg2 arg3 harg3 arg4 harg4 arg5 harg5 arg6 harg6 arg7 harg7 arg8 harg8 hc0 x0 x1 x2
      = ofRows 64 (ginvRow (varRow arg2 harg2 x1)) := by
  unfold sout0_A_0
  rw [View.read_writes_junk_eq_canon]
  unfold kernelRun0_A
  dsimp only
  rw [pieces_ginv]
  exact canon_rowPieces 64 _

theorem sout_A1 (hc0 : cond0_0 i) (x0 : Vec F S256x8 .f32) (x1 : Vec F S64x512 .f32) (x2 : Vec F S8x512 .f32) :
    sout0_A_1 c i arg1 harg1 arg2 harg2 arg3 harg3 arg4 harg4 arg5 harg5 arg6 harg6 arg7 harg7 arg8 harg8 hc0 x0 x1 x2
      = ofRows 8 (gbRow (varRow arg2 harg2 x1) (muRow arg3 harg3 x2)) := by
  unfold sout0_A_1
  rw [View.read_writes_junk_eq_canon]
  unfold kernelRun0_A
  dsimp only
  rw [pieces_gb]
  exact canon_rowPieces 8 _

theorem sout_A2 (hc0 : cond0_0 i) (x0 : Vec F S256x8 .f32) (x1 : Vec F S64x512 .f32) (x2 : Vec F S8x512 .f32) :
    sout0_A_2 c i arg1 harg1 arg2 harg2 arg3 harg3 arg4 harg4 arg5 harg5 arg6 harg6 arg7 harg7 arg8 harg8 hc0 x0 x1 x2
      = ofRows 2 (gcRow (varRow arg2 harg2 x1) (muRow arg3 harg3 x2)) := by
  unfold sout0_A_2
  rw [View.read_writes_junk_eq_canon]
  unfold kernelRun0_A
  dsimp only
  rw [pieces_gc]
  exact canon_rowPieces 2 _

theorem sout_B0 (hc0 : ¬ cond0_0 i) (x0 : Vec F S256x8 .f32) (x1 : Vec F S64x512 .f32) (x2 : Vec F S8x512 .f32) (xo4 : Vec F S1x1 .f32) (xs0 : Vec F S64x512 .f32) (xs1 : Vec F S8x512 .f32) (xs2 : Vec F S2x512 .f32) :
    sout0_B_0 c i arg1 harg1 arg2 harg2 arg3 harg3 arg4 harg4 arg5 harg5 arg6 harg6 arg7 harg7 arg8 harg8 hc0 x0 x1 x2 xo4 xs0 xs1 xs2 = xs0
    ∧ sout0_B_1 c i arg1 harg1 arg2 harg2 arg3 harg3 arg4 harg4 arg5 harg5 arg6 harg6 arg7 harg7 arg8 harg8 hc0 x0 x1 x2 xo4 xs0 xs1 xs2 = xs1
    ∧ sout0_B_2 c i arg1 harg1 arg2 harg2 arg3 harg3 arg4 harg4 arg5 harg5 arg6 harg6 arg7 harg7 arg8 harg8 hc0 x0 x1 x2 xo4 xs0 xs1 xs2 = xs2 := ⟨rfl, rfl, rfl⟩

/-! ## The loads read -/

theorem ld_row (N n : Nat) (h : n < N) (X : Vec F (⟨2, ![N, 512]⟩ : Shape) .f32) :
    View.ld X (Rect.unit (s := (⟨2, ![N, 512]⟩ : Shape)) ![n, 0] S1x512.size (inbRow h)) = fun j => X (ix2 ⟨n, h⟩ (j 1)) := by
  funext j
  have h0 : (j 0).val = 0 := Nat.lt_one_iff.mp (j 0).isLt
  refine congrArg X (funext fun a => ?_)
  fin_cases a
  · exact Fin.ext (by show n + 1 * (j 0).val = n; omega)
  · exact Fin.ext (by show 0 + 1 * (j 1).val = (j 1).val; omega)

/-- The covariances' table by entry: row `8 d + e`. -/
def varAt (x1 : Vec F S64x512 .f32) (d e : Nat) : FVec F S1x512 .f32 :=
  if h : 8 * d + e < 64 then relaid fun j => x1 (ix2 ⟨8 * d + e, h⟩ (j 1)) else lanewise.zero

/-- The centres' table by row. -/
def muAt (x2 : Vec F S8x512 .f32) (d : Nat) : FVec F S1x512 .f32 :=
  if h : d < 8 then relaid fun j => x2 (ix2 ⟨d, h⟩ (j 1)) else lanewise.zero

theorem varRow_eq (x1 : Vec F S64x512 .f32) : varRow arg2 harg2 x1 = varAt x1 := by
  funext d e
  unfold varRow varAt
  by_cases h : 8 * d + e < 64
  · rw [dif_pos h, dif_pos h, View.readAt_eq_ld, harg2.read_unread]; exact congrArg relaid (ld_row 64 _ h x1)
  · rw [dif_neg h, dif_neg h]

theorem muRow_eq (x2 : Vec F S8x512 .f32) : muRow arg3 harg3 x2 = muAt x2 := by
  funext d
  unfold muRow muAt
  by_cases h : d < 8
  · rw [dif_pos h, dif_pos h, View.readAt_eq_ld, harg3.read_unread]; exact congrArg relaid (ld_row 8 _ h x2)
  · rw [dif_neg h, dif_neg h]

/-- The four tables point 0 prepares. -/
def tabG (x1 : Vec F S64x512 .f32) : Vec F S64x512 .f32 := ofRows 64 (ginvRow (varAt x1))
def tabB (x1 : Vec F S64x512 .f32) (x2 : Vec F S8x512 .f32) : Vec F S8x512 .f32 := ofRows 8 (gbRow (varAt x1) (muAt x2))
def tabC (x1 : Vec F S64x512 .f32) (x2 : Vec F S8x512 .f32) : Vec F S2x512 .f32 := ofRows 2 (gcRow (varAt x1) (muAt x2))

/-- The scores of a block from the three stored tables. -/
def scores (x0 : Vec F S256x8 .f32) (g : Vec F S64x512 .f32) (b : Vec F S8x512 .f32) (t : Vec F S2x512 .f32) : FVec F S256x512 .f32 :=
  scoreOf x0 g b (row2 t 0) (row2 t 1)

theorem scoreOf_congr (x0 : Vec F S256x8 .f32) {g g' : Vec F S64x512 .f32} {b b' : Vec F S8x512 .f32} {q q' l l' : Vec F S1x512 .f32}
    (hg : g = g') (hb : b = b') (hq : q = q') (hl : l = l') : scoreOf x0 g b q l = scoreOf x0 g' b' q' l' := by
  rw [hg, hb, hq, hl]

/-- What a later point leaves of the positions. -/
theorem val_B3 (hc0 : ¬ cond0_0 i) (x0 : Vec F S256x8 .f32) (x1 : Vec F S64x512 .f32) (x2 : Vec F S8x512 .f32) (xo4 : Vec F S1x1 .f32) (xs0 : Vec F S64x512 .f32) (xs1 : Vec F S8x512 .f32) (xs2 : Vec F S2x512 .f32) :
    out0_B_3 c i arg1 harg1 arg2 harg2 arg3 harg3 arg4 harg4 arg5 harg5 arg6 harg6 arg7 harg7 arg8 harg8 hc0 x0 x1 x2 xo4 xs0 xs1 xs2
      = (sorted (scores x0 xs0 xs1 xs2)).2 := by
  rw [out_B3]
  simp only [View.readAt_eq_ld, harg1.read_unread, harg6.read_unread, harg7.read_unread, harg8.read_unread]
  rw [View.ld_unit_zero (S := S256x8) hz, View.ld_unit_zero (S := S64x512) hz, View.ld_unit_zero (S := S8x512) hz]
  exact congrArg₂ (fun u v => (sorted (scoreOf x0 xs0 xs1 u v)).2) (ld_row 2 0 (by decide) xs2) (ld_row 2 1 (by decide) xs2)

/-- What a later point leaves of the running sum. -/
theorem val_B4 (hc0 : ¬ cond0_0 i) (x0 : Vec F S256x8 .f32) (x1 : Vec F S64x512 .f32) (x2 : Vec F S8x512 .f32) (xo4 : Vec F S1x1 .f32) (xs0 : Vec F S64x512 .f32) (xs1 : Vec F S8x512 .f32) (xs2 : Vec F S2x512 .f32) :
    out0_B_4 c i arg1 harg1 arg2 harg2 arg3 harg3 arg4 harg4 arg5 harg5 arg6 harg6 arg7 harg7 arg8 harg8 hc0 x0 x1 x2 xo4 xs0 xs1 xs2
      = fun _ => lossOf (sorted (scores x0 xs0 xs1 xs2)).1 (xo4 (ix2 0 0)) := by
  rw [out_B4]
  simp only [View.readAt_eq_ld, harg1.read_unread, harg5.read_unread, harg6.read_unread, harg7.read_unread, harg8.read_unread]
  rw [View.ld_unit_zero (S := S256x8) hz, View.ld_unit_zero (S := S64x512) hz, View.ld_unit_zero (S := S8x512) hz]
  have e5 : View.ld xo4 (Rect.unit (s := S1x1) ![0, 0] ![1, 1] inb_S1x1_S1x1_0_0) (Shape.Idx.first (by decide)) = xo4 (ix2 0 0) :=
    congrArg xo4 (funext fun a => by fin_cases a <;> rfl)
  rw [e5]
  exact congrArg₂ (fun u v => fun _ => lossOf (sorted (scoreOf x0 xs0 xs1 u v)).1 (xo4 (ix2 0 0))) (ld_row 2 0 (by decide) xs2) (ld_row 2 1 (by decide) xs2)

/-- What point 0 leaves of the positions. -/
theorem val_A3 (hc0 : cond0_0 i) (x0 : Vec F S256x8 .f32) (x1 : Vec F S64x512 .f32) (x2 : Vec F S8x512 .f32) :
    out0_A_3 c i arg1 harg1 arg2 harg2 arg3 harg3 arg4 harg4 arg5 harg5 arg6 harg6 arg7 harg7 arg8 harg8 hc0 x0 x1 x2
      = (sorted (scores x0 (tabG x1) (tabB x1 x2) (tabC x1 x2))).2 := by
  rw [out_A3]
  simp only [View.readAt_eq_ld, harg1.read_unread]
  simp only [View.readCov_eq_canon', pieces_ginv, pieces_gb, pieces_gc, canon_rowPieces, varRow_eq, muRow_eq]
  rw [View.ld_unit_zero (S := S256x8) hz]
  exact congrArg (fun s => (sorted s).2) (scoreOf_congr x0 (View.ld_unit_zero (S := S64x512) hz _ _)
    (View.ld_unit_zero (S := S8x512) hz _ _) (ld_row 2 0 (by decide) _) (ld_row 2 1 (by decide) _))

/-- What point 0 leaves of the running sum. -/
theorem val_A4 (hc0 : cond0_0 i) (x0 : Vec F S256x8 .f32) (x1 : Vec F S64x512 .f32) (x2 : Vec F S8x512 .f32) :
    out0_A_4 c i arg1 harg1 arg2 harg2 arg3 harg3 arg4 harg4 arg5 harg5 arg6 harg6 arg7 harg7 arg8 harg8 hc0 x0 x1 x2
      = fun _ => lossOf (sorted (scores x0 (tabG x1) (tabB x1 x2) (tabC x1 x2))).1 (Scalar.ofBits .f32 0x00000000#32) := by
  rw [out_A4]
  simp only [View.readAt_eq_ld, harg1.read_unread]
  simp only [View.readCov_eq_canon', pieces_ginv, pieces_gb, pieces_gc, canon_rowPieces, varRow_eq, muRow_eq]
  rw [View.ld_unit_zero (S := S256x8) hz]
  exact congrArg (fun s => fun _ => lossOf (sorted s).1 (Scalar.ofBits .f32 0x00000000#32)) (scoreOf_congr x0 (View.ld_unit_zero (S := S64x512) hz _ _)
    (View.ld_unit_zero (S := S8x512) hz _ _) (ld_row 2 0 (by decide) _) (ld_row 2 1 (by decide) _))

end Cert.Proof

end
-- ==== Proof.KernelRun.lean ====
/- The kernel's run, read: the positions of every block of points, and the mean built from the running sum. -/
module

public import proofs.«01_k».proof.Proof.Body
public import Idealize.ShloMosaic.Lib.StableHlo.Run
public import Idealize.ShloMosaic.Lib.StableHlo.ReadAt

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

theorem pos_N : 0 < cfg0.N := by rw [show cfg0.N = 256 from N_0]; decide

/-- The first point. -/
abbrev t0 : Fin cfg0.N := ⟨0, pos_N⟩

/-- The tables the first point prepares, from the covariances and the centres it reads. -/
def tG (c : Dev nD) : Vec F S64x512 .f32 := tabG (iblk m c 1 t0)
def tB (c : Dev nD) : Vec F S8x512 .f32 := tabB (iblk m c 1 t0) (iblk m c 2 t0)
def tC (c : Dev nD) : Vec F S2x512 .f32 := tabC (iblk m c 1 t0) (iblk m c 2 t0)

/-- The sorted scores and positions of block `t`. -/
def blockSorted (c : Dev nD) (t : Fin cfg0.N) : FVec F S256x512 .f32 × IVec S256x512 32 :=
  sorted (scores (iblk m c 0 t) (tG m c) (tB m c) (tC m c))

/-- The running sum after point `n`. -/
def chain (c : Dev nD) : (n : Nat) → n < cfg0.N → F .f32
  | 0, h => lossOf (blockSorted m c ⟨0, h⟩).1 (Scalar.ofBits .f32 0x00000000#32)
  | n + 1, h => lossOf (blockSorted m c ⟨n + 1, h⟩).1 (chain c n (Nat.lt_of_succ_lt h))

/-- What the buffers hold after point `n`: the block's positions, the running sum, the three tables. -/
theorem outsAt_eq (c : Dev nD) : ∀ (n : Nat) (h : n < cfg0.N), outsAt0 m c n h
    = ((blockSorted m c ⟨n, h⟩).2, (fun _ => chain m c n h), tG m c, tB m c, tC m c)
  | 0, h => by
    refine (outsAt0_A m c ⟨0, h⟩ rfl).trans ?_
    rw [val_A3, val_A4, sout_A0, sout_A1, sout_A2]
    simp only [varRow_eq, muRow_eq]
    rfl
  | n + 1, h => by
    have hN : cfg0.N = 256 := N_0
    have hB : ¬(⟨n + 1, h⟩ : Fin cfg0.N).val % 256 = 0 := by dsimp only; omega
    refine (outsAt0_B m c ⟨n + 1, h⟩ hB).trans ?_
    have ih : outsAt0 m c ((⟨n + 1, h⟩ : Fin cfg0.N).val - 1) (Nat.lt_of_le_of_lt (Nat.sub_le _ _) h)
        = ((blockSorted m c ⟨n, Nat.lt_of_succ_lt h⟩).2, (fun _ => chain m c n (Nat.lt_of_succ_lt h)), tG m c, tB m c, tC m c) :=
      outsAt_eq c n (Nat.lt_of_succ_lt h)
    rw [ih, val_B3, val_B4]
    dsimp only
    rw [(sout_B0 c (grid0.coords ⟨n + 1, h⟩) _ _ _ _ _ _ _ _ _ _ _ _ _ _ _ _ _ _ _ _ _ _ _ _).1,
      (sout_B0 c (grid0.coords ⟨n + 1, h⟩) _ _ _ _ _ _ _ _ _ _ _ _ _ _ _ _ _ _ _ _ _ _ _ _).2.1,
      (sout_B0 c (grid0.coords ⟨n + 1, h⟩) _ _ _ _ _ _ _ _ _ _ _ _ _ _ _ _ _ _ _ _ _ _ _ _).2.2]
    rfl

/-- The block of rows that row `r` lies in. -/
def blockOf (r : Nat) (h : r < 65536) : Fin cfg0.N := ⟨r / 256, by rw [show cfg0.N = 256 from N_0]; omega⟩

/-- The positions of every point. -/
def positions (c : Dev nD) : Buf (Elt F) ((c : Thread nD τ).loc main_v0_0) :=
  fun (i : S65536x512.Idx) => (blockSorted m c (blockOf (i 0).val (i 0).isLt)).2 (ix2 ⟨(i 0).val % 256, Nat.mod_lt _ (by decide)⟩ (i 1))

/-- Block `t` of the positions is rows `256 t` on; block `t` of the points likewise; the other windows never move. -/
theorem index_all (t : Fin cfg0.N) : (win0_3.index t 0 = t.val ∧ win0_3.index t 1 = 0) ∧ (win0_0.index t 0 = t.val ∧ win0_0.index t 1 = 0)
    ∧ (win0_1.index t 0 = 0 ∧ win0_1.index t 1 = 0) ∧ (win0_2.index t 0 = 0 ∧ win0_2.index t 1 = 0) ∧ win0_4.index t 0 = 0 ∧ win0_4.index t 1 = 0 := by
  have h : ∀ t : Fin 256, (win0_3.index (t.cast N_0.symm) 0 = t.val ∧ win0_3.index (t.cast N_0.symm) 1 = 0)
      ∧ (win0_0.index (t.cast N_0.symm) 0 = t.val ∧ win0_0.index (t.cast N_0.symm) 1 = 0)
      ∧ (win0_1.index (t.cast N_0.symm) 0 = 0 ∧ win0_1.index (t.cast N_0.symm) 1 = 0)
      ∧ (win0_2.index (t.cast N_0.symm) 0 = 0 ∧ win0_2.index (t.cast N_0.symm) 1 = 0)
      ∧ win0_4.index (t.cast N_0.symm) 0 = 0 ∧ win0_4.index (t.cast N_0.symm) 1 = 0 := by decide +kernel
  exact h (t.cast N_0)

theorem flushed_positions (c : Dev nD) (t : Fin cfg0.N) :
    (dats m 0 c).flushed 3 t = ((cfg0.win 3).blk t).view.read (Elt F) (positions m c) := by
  show (cfg0.win 3).cut (grid0.coords t) ((dats m 0 c).after 3 t) = _
  rw [after0_3, outsAt_eq]
  funext j
  rw [View.read_apply]
  have hi := (index_all t).1
  have h0 : (j 0).val < 256 := (j 0).isLt
  have ht : t.val < 256 := Nat.lt_of_lt_of_eq t.isLt N_0
  show (blockSorted m c t).2 j = positions m c _
  unfold positions
  have e0 : (((cfg0.win 3).blk t).view.emb j (0 : Fin 2)).val = t.val * 256 + (j 0).val := by
    show win0_3.index t 0 * 256 + 1 * (j 0).val = _; rw [hi.1]; omega
  have e1 : (((cfg0.win 3).blk t).view.emb j (1 : Fin 2)).val = (j 1).val := by
    show win0_3.index t 1 * 512 + 1 * (j 1).val = _; rw [hi.2]; omega
  have hb : blockOf (((cfg0.win 3).blk t).view.emb j (0 : Fin 2)).val (((cfg0.win 3).blk t).view.emb j (0 : Fin 2)).isLt = t := by
    refine Fin.ext ?_; show _ / 256 = _; rw [e0]; omega
  rw [hb]
  refine congrArg _ (funext fun a => ?_)
  fin_cases a
  · refine Fin.ext ?_; show (j 0).val = _ % 256; rw [e0]; omega
  · refine Fin.ext ?_; exact e1.symm

/-- So the array of positions ends holding them. -/
theorem final_positions (c : Dev nD) : (dats m 0 c).arrAt 3 cfg0.N = positions m c :=
  (dats m 0 c).arrAt_eq_of_cover 3 (positions m c) (fun t _ => flushed_positions m c t) fun i => by
    have hN : cfg0.N = 256 := N_0
    have h0 : (i 0 : Nat) < 65536 := (i 0).isLt
    have h1 : (i 1 : Nat) < 512 := (i 1).isLt
    refine ⟨blockOf (i 0).val h0, flush0_3 _, ?_⟩
    have hi := (index_all (blockOf (i 0).val h0)).1
    have hv : (blockOf (i 0).val h0).val = (i 0).val / 256 := rfl
    show i ∈ ((View.whole main_v0_0).slice (win0_3.rect (blockOf (i 0).val h0))).set
    rw [View.set_slice_whole, Rect.mem_set_unit]
    intro a
    match a with
    | ⟨0, _⟩ => show win0_3.index (blockOf (i 0).val h0) 0 * 256 ≤ (i 0 : Nat) ∧ (i 0 : Nat) < win0_3.index (blockOf (i 0).val h0) 0 * 256 + 256
                rw [hi.1, hv]; omega
    | ⟨1, _⟩ => show win0_3.index (blockOf (i 0).val h0) 1 * 512 ≤ (i 1 : Nat) ∧ (i 1 : Nat) < win0_3.index (blockOf (i 0).val h0) 1 * 512 + 512
                rw [hi.2]; omega

/-- The sum over all blocks. -/
def total (c : Dev nD) : F .f32 := chain m c 255 (by rw [show cfg0.N = 256 from N_0]; decide)

theorem lt_N : 255 < cfg0.N := by rw [show cfg0.N = 256 from N_0]; decide

theorem final_total (c : Dev nD) : (dats m 0 c).arrAt 4 cfg0.N = (fun _ => total m c : Buf (Elt F) ((c : Thread nD τ).loc main_call0_v3_1)) :=
  (dats m 0 c).arrAt_eq_of_cover 4 _ (fun t hf => by
    have hN : cfg0.N = 256 := N_0
    have h3 : t.val = 255 := by have := (flush0_4 t).mp hf; have := t.isLt; omega
    show (cfg0.win 4).cut (grid0.coords t) ((dats m 0 c).after 4 t) = _
    rw [after0_4, outsAt_eq]
    funext j
    obtain ⟨n, hn⟩ := t
    dsimp only at h3
    subst h3
    rfl) fun (i : S1x1.Idx) => by
    refine ⟨⟨255, lt_N⟩, (flush0_4 _).mpr rfl, ?_⟩
    have hi := (index_all ⟨255, lt_N⟩).2.2.2.2
    have h0 : (i 0 : Nat) < 1 := (i 0).isLt
    have h1 : (i 1 : Nat) < 1 := (i 1).isLt
    show i ∈ ((View.whole main_call0_v3_1).slice (win0_4.rect ⟨255, lt_N⟩)).set
    rw [View.set_slice_whole, Rect.mem_set_unit]
    intro a
    match a with
    | ⟨0, _⟩ => show win0_4.index ⟨255, lt_N⟩ 0 * 1 ≤ (i 0 : Nat) ∧ (i 0 : Nat) < win0_4.index ⟨255, lt_N⟩ 0 * 1 + 1
                rw [hi.1]; omega
    | ⟨1, _⟩ => show win0_4.index ⟨255, lt_N⟩ 1 * 1 ≤ (i 1 : Nat) ∧ (i 1 : Nat) < win0_4.index ⟨255, lt_N⟩ 1 * 1 + 1
                rw [hi.2]; omega

/-- The mean: half of the sum over the number of points and a constant. -/
def meanLoss (c : Dev nD) : Buf (Elt F) ((c : Thread nD τ).loc main_v0_1) := fun (_ : S_.Idx) =>
  FloatOps.mulf (FloatOps.ofBits .f32 0x3F000000#32) (FloatOps.addf (FloatOps.hostDivf (total m c) (FloatOps.ofBits .f32 0x47800000#32)) (FloatOps.ofBits .f32 0x416B3F8E#32))

theorem tail_loss (c : Dev nD) : Pipeline.afterTail₀ cfgs (dats m) 0 (V0 m) [hostOps1] c main_v0_1 = meanLoss m c := by
  unfold Pipeline.afterTail₀
  simp only [List.flatten_cons, List.flatten_nil, List.append_nil]
  after_results
  have hw : Pipeline.withArrays (cfgs 0).spec c (V0 m c) (fun w => (dats m 0 c).arrAt w (cfgs 0).N) (Proc.tc.devRef (Pipeline.arrRef (cfgs 0).spec 4))
      = (dats m 0 c).arrAt 4 (cfgs 0).N :=
    Pipeline.withArrays_arr (cfgs 0).spec launch0.win.arr_inj c (V0 m c) (fun w => (dats m 0 c).arrAt w (cfgs 0).N) 4
  have hw' : Pipeline.withArrays (cfgs 0).spec c (V0 m c) (fun w => (dats m 0 c).arrAt w (cfgs 0).N) (Proc.tc.devRef main_call0_v3_1)
      = (fun _ => total m c : Buf (Elt F) ((c : Thread nD τ).loc main_call0_v3_1)) := hw.trans (final_total m c)
  funext i
  dsimp only [StableHlo.TRef.of]
  rw [hw']
  rfl

/-- The run, read. -/
theorem run : θ_run defs (onTc (τ := τ) (main (F := F))) ⟨m, fun _ => 0, ρ⟩ fun r => ∀ c : Dev nD,
      r.2.mem ((c.tc : Thread nD τ).loc main_v0_0) = positions m c
      ∧ r.2.mem ((c.tc : Thread nD τ).loc main_v0_1) = meanLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final_positions m c),
      ((h c).2 main_v0_1 (Pipeline.mem_restRefs_of main_v0_1 (by decide) (by decide))).trans (tail_loss m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.Proof

end
-- ==== Proof.KernelValue.lean ====
/- What the kernel's blocks hold, and its scores. -/
module

public import proofs.«01_k».proof.Proof.KernelRun
public import proofs.«01_k».proof.Proof.Given

@[expose] public section

set_option maxRecDepth 16384

noncomputable section

namespace Cert.Proof

open Idealize.ShloMosaic Idealize.ShloMosaic.TcCoe Idealize.SL.Sem Cert.KernelIdeal Cert.KernelIdeal.Gen
open Finset

variable (m : (ℓ : Loc nD τ sig) → Buf (Elt Ideal) ℓ) (c : Dev nD)

/-- The kernel's arguments. -/
def given : Args := ⟨m ((c : Thread nD τ).loc main_arg0), m ((c : Thread nD τ).loc main_arg1), m ((c : Thread nD τ).loc main_arg2)⟩

/-- Row `r` of block `t` is point `256 t + r`. -/
theorem block_point (t : Fin cfg0.N) (r : Fin 256) (d : Fin 8) (h : 256 * t.val + r.val < 65536) :
    (iblk m c 0 t : FVec Ideal S256x8 .f32) (ix2 r d) = (given m c).x (ix2 ⟨256 * t.val + r.val, h⟩ d) := by
  have hi := (index_all t).2.1
  show ((cfg0.win 0).blk t).view.read (Elt Ideal) (V m c main_arg0) (ix2 r d) = _
  rw [View.read_apply, V_main_arg0]
  refine congrArg (m ((c : Thread nD τ).loc main_arg0)) (funext fun (a : Fin 2) => Fin.ext ?_)
  fin_cases a
  · show win0_0.index t 0 * 256 + 1 * r.val = 256 * t.val + r.val; rw [hi.1]; omega
  · show win0_0.index t 1 * 8 + 1 * d.val = d.val; rw [hi.2]; omega

theorem V_cov (a : Fin 64) (k : Fin 512) : (V m c main_call0_v1 : FVec Ideal S64x512 .f32) (ix2 a k)
    = (given m c).var (ix3 k ⟨a.val / 8, by omega⟩ ⟨a.val % 8, by omega⟩) := by
  unfold V V0
  simp only [List.flatten_cons, List.flatten_nil, List.append_nil]
  after_reads_at
  rfl

theorem V_centre (d : Fin 8) (k : Fin 512) : (V m c main_call0_v2 : FVec Ideal S8x512 .f32) (ix2 d k) = (given m c).mu (ix2 k d) := by
  unfold V V0
  simp only [List.flatten_cons, List.flatten_nil, List.append_nil]
  after_reads_at
  rfl

/-- Row `8 d + e` of the covariances' table. -/
theorem block_cov (a : Fin 64) (k : Fin 512) :
    (iblk m c 1 t0 : FVec Ideal S64x512 .f32) (ix2 a k) = (given m c).var (ix3 k ⟨a.val / 8, by omega⟩ ⟨a.val % 8, by omega⟩) := by
  have hi := (index_all t0).2.2.1
  rw [← V_cov]
  show ((cfg0.win 1).blk t0).view.read (Elt Ideal) (V m c main_call0_v1) (ix2 a k) = _
  rw [View.read_apply]
  refine congrArg (V m c main_call0_v1) (funext fun (b : Fin 2) => Fin.ext ?_)
  fin_cases b
  · show win0_1.index t0 0 * 64 + 1 * a.val = a.val; rw [hi.1]; omega
  · show win0_1.index t0 1 * 512 + 1 * k.val = k.val; rw [hi.2]; omega

/-- Row `d` of the centres' table. -/
theorem block_centre (d : Fin 8) (k : Fin 512) : (iblk m c 2 t0 : FVec Ideal S8x512 .f32) (ix2 d k) = (given m c).mu (ix2 k d) := by
  have hi := (index_all t0).2.2.2.1
  rw [← V_centre]
  show ((cfg0.win 2).blk t0).view.read (Elt Ideal) (V m c main_call0_v2) (ix2 d k) = _
  rw [View.read_apply]
  refine congrArg (V m c main_call0_v2) (funext fun (b : Fin 2) => Fin.ext ?_)
  fin_cases b
  · show win0_2.index t0 0 * 8 + 1 * d.val = d.val; rw [hi.1]; omega
  · show win0_2.index t0 1 * 512 + 1 * k.val = k.val; rw [hi.2]; omega

/-- Laying a row out again moves nothing. -/
theorem relaid_apply (v : FVec Ideal S1x512 .f32) (k : Fin 512) : relaid v (ix2 0 k) = v (ix2 0 k) := by
  unfold relaid; pointwise

theorem recast_apply (v : FVec Ideal S1x512 .f32) (k : Fin 512) : shapeCast S1x512 v shapeCasts_S1x512_S1x512 (ix2 0 k) = v (ix2 0 k) := by
  pointwise

variable {m c}

theorem lane_cov (k : Fin 512) (d e : Nat) : lane k (varAt (iblk m c 1 t0) d e) = (given m c).cov k d e := by
  unfold lane varAt Args.cov
  by_cases h : 8 * d + e < 64
  · rw [dif_pos h, dif_pos h, relaid_apply]
    exact block_cov m c ⟨8 * d + e, h⟩ k
  · rw [dif_neg h, dif_neg h]
    exact (lanewise_maps k).zero

theorem lane_centre (k : Fin 512) (d : Nat) : lane k (muAt (iblk m c 2 t0) d) = (given m c).centre k d := by
  unfold lane muAt Args.centre
  by_cases h : d < 8
  · rw [dif_pos h, dif_pos h, relaid_apply]
    exact block_centre m c ⟨d, h⟩ k
  · rw [dif_neg h, dif_neg h]
    exact (lanewise_maps k).zero

/-- The kernel's score of row `r` of block `t` and cluster `k`, from its own preparation. -/
theorem scores_prepared (t : Fin cfg0.N) (r : Fin 256) (k : Fin 512) (h : 256 * t.val + r.val < 65536) :
    scores (iblk m c 0 t) (tG m c) (tB m c) (tC m c) (ix2 r k)
      = scoreFrom ((given m c).point ⟨256 * t.val + r.val, h⟩) (ideal.inverse ((given m c).cov k)) (ideal.shift ((given m c).cov k) ((given m c).centre k))
          (ideal.quad ((given m c).cov k) ((given m c).centre k)) (ideal.logdet ((given m c).cov k)) := by
  have M := lanewise_maps k
  refine scoreOf_apply r k ?_ ?_ ?_ ?_ ?_
  · exact fun d => (block_point m c t r d h).trans ((given m c).point_eq _ d)
  · exact fun a => (recast_apply _ k).trans (M.inverse (lane_cov k) _ _)
  · exact fun d => (recast_apply _ k).trans (M.shift (lane_cov k) (lane_centre k) d)
  · exact (recast_apply _ k).trans (M.quad (lane_cov k) (lane_centre k))
  · exact (recast_apply _ k).trans (M.logdet (lane_cov k))

/-- The kernel's score of row `r` of block `t` and cluster `k`. -/
theorem scores_apply (hs : (given m c).Symmetric) (t : Fin cfg0.N) (r : Fin 256) (k : Fin 512) (h : 256 * t.val + r.val < 65536) :
    scores (iblk m c 0 t) (tG m c) (tB m c) (tC m c) (ix2 r k) = (given m c).score ⟨256 * t.val + r.val, h⟩ k := by
  rw [scores_prepared t r k h, Args.score]
  rcases prepared _ (hs k) with ⟨h1, h2⟩ | ⟨hlog, hinv, _⟩
  · unfold scoreFrom
    rw [h1, h2, EReal.add_bot, EReal.add_bot]
  · have hshift : ∀ d : Fin 8, ideal.shift ((given m c).cov k) ((given m c).centre k) d = (given m c).pulled k d := fun d => by
      unfold Arith.shift Args.pulled
      rw [total_ideal, ← Finset.range_eq_Ico, Finset.sum_range]
      exact Finset.sum_congr rfl fun e _ => congrArg (· * (given m c).centre k e) (hinv d d.isLt e e.isLt)
    have hquad : ideal.quad ((given m c).cov k) ((given m c).centre k) = ∑ d : Fin 8, (given m c).centre k d * (given m c).pulled k d := by
      unfold Arith.quad
      rw [total_ideal, ← Finset.range_eq_Ico, Finset.sum_range]
      exact Finset.sum_congr rfl fun d _ => congrArg ((given m c).centre k d * ·) (hshift d)
    have hg : ∀ d e : Fin 8, ideal.inverse ((given m c).cov k) d e = (given m c).inv k d e := fun d e => hinv d d.isLt e e.isLt
    unfold scoreFrom
    rw [hlog, hquad]
    simp only [hshift, hg]

end Cert.Proof

end
-- ==== Proof.SortValue.lean ====
/- What the kernel's sort leaves in a row of distinct scores: the scores in increasing order, and the lanes they came from. -/
module

public import proofs.«01_k».proof.Proof.Stage
public import Idealize.ShloMosaic.Lib.SortNet.Sorts
public import Idealize.ShloMosaic.Lib.SortNet.Printed
public import Idealize.ShloMosaic.Lib.Pipeline.Value
public import Idealize.ShloMosaic.Lib.Pointwise.Tactic

@[expose] public section

set_option maxRecDepth 16384

noncomputable section

namespace Cert.Proof

open Idealize.ShloMosaic Idealize.ShloMosaic.TcCoe Cert.KernelIdeal Cert.KernelIdeal.Gen
open Idealize.ShloMosaic.SortNet

/-- A lane of a row. -/
abbrev Lane := Fin (2 ^ 9)

/-- The place of lane `i` in row `r`. -/
abbrev at2 (r : Fin 256) (i : Lane) : S256x512.Idx := ix2 r i

/-- The bit test of a lane number by words is the bit test of the number. -/
theorem clear_apply {s : Nat} (hs : s < 32) (r : Fin 256) (i : Lane) :
    clear (BitVec.ofNat 32 (2 ^ s)) (at2 r i) = BitVec.ofBool (decide (i.val &&& 2 ^ s = 0)) := by
  have hi : i.val < 2 ^ 32 := Nat.lt_of_lt_of_le i.isLt (by decide)
  have hw : 2 ^ s < 2 ^ 32 := Nat.pow_lt_pow_right (by decide) hs
  show IntOp.cmpi .eq (IntOp.andi (lanes (at2 r i)) (BitVec.ofNat 32 (2 ^ s))) 0#32 = _
  have hl : lanes (at2 r i) = BitVec.ofNat 32 i.val := iota_single_apply .tc S256x512 32 1 _ _
  rw [hl]
  have hand : IntOp.andi (BitVec.ofNat 32 i.val) (BitVec.ofNat 32 (2 ^ s)) = BitVec.ofNat 32 (i.val &&& 2 ^ s) := by
    apply BitVec.eq_of_toNat_eq
    show (BitVec.ofNat 32 i.val &&& BitVec.ofNat 32 (2 ^ s)).toNat = _
    rw [BitVec.toNat_and, BitVec.toNat_ofNat, BitVec.toNat_ofNat, BitVec.toNat_ofNat, Nat.mod_eq_of_lt hi, Nat.mod_eq_of_lt hw,
      Nat.mod_eq_of_lt (Nat.lt_of_le_of_lt Nat.and_le_left hi)]
  rw [hand]
  have hlt : i.val &&& 2 ^ s < 2 ^ 32 := Nat.lt_of_le_of_lt Nat.and_le_left hi
  show BitVec.ofBool (BitVec.ofNat 32 (i.val &&& 2 ^ s) == 0#32) = _
  congr 1
  rw [Bool.eq_iff_iff, beq_iff_eq, decide_eq_true_iff]
  constructor
  · intro h
    have := congrArg BitVec.toNat h
    rwa [BitVec.toNat_ofNat, Nat.mod_eq_of_lt hlt] at this
  · intro h; rw [h]

/-- The rotated lanes, chosen by the bit, hold the partner's entry. -/
theorem across_apply {α : Type} {s : Nat} (hs : s < 9) (v : S256x512.Idx → α) (r : Fin 256) (i : Lane) :
    across s v (at2 r i) = v (at2 r (partner 9 s i)) := by
  have hd : dist s = 2 ^ s := by rw [dist, Nat.mod_eq_of_lt hs]
  have hp : 2 ^ s < 512 := Nat.pow_lt_pow_right (n := 9) (by decide) hs
  show Scalar.select (clear (BitVec.ofNat 32 (dist s)) (at2 r i)) _ _ = _
  have hc : clear (BitVec.ofNat 32 (dist s)) (at2 r i) = BitVec.ofBool (decide (i.val &&& 2 ^ s = 0)) := by
    rw [hd]; exact clear_apply (by omega) r i
  rw [hc]
  by_cases h : i.val &&& 2 ^ s = 0
  · rw [decide_eq_true h, select_ofBool, if_pos rfl]
    have hv := partner_val_of_clear hs i h
    have hlt : i.val < 512 - dist s := by have := (partner 9 s i).isLt; rw [hd]; omega
    refine (concatenate_pair_apply_left (s₁ := Lanes (512 - dist s)) (s₂ := Lanes (dist s)) 1 _ _ _ (at2 r i) rfl (ix2 r ⟨i.val, hlt⟩) ?_).trans ?_
    · intro b; match b with | ⟨0, _⟩ => rfl | ⟨1, _⟩ => rfl
    · refine extractStridedSlice_apply _ _ _ _ (at2 r (partner 9 s i)) ?_
      intro b
      match b with
      | ⟨0, _⟩ => exact (Nat.zero_add _).symm
      | ⟨1, _⟩ => show (partner 9 s i).val = dist s + i.val; rw [hv, hd]; omega
  · rw [decide_eq_false h, select_ofBool, if_neg Bool.false_ne_true]
    obtain ⟨hle, hv⟩ := partner_val_of_set hs i h
    have hi : i.val < 512 := i.isLt
    have hlt : i.val - dist s < 512 - dist s := by rw [hd]; omega
    refine (concatenate_pair_apply_right (s₁ := Lanes (dist s)) (s₂ := Lanes (512 - dist s)) 1 _ _ _ (at2 r i) rfl rfl (ix2 r ⟨i.val - dist s, hlt⟩) ?_ ?_).trans ?_
    · intro b hb; match b with | ⟨0, _⟩ => rfl | ⟨1, _⟩ => exact absurd rfl hb
    · show i.val - dist s + dist s = i.val; rw [hd]; omega
    · refine extractStridedSlice_apply _ _ _ _ (at2 r (partner 9 s i)) ?_
      intro b
      match b with
      | ⟨0, _⟩ => exact (Nat.zero_add _).symm
      | ⟨1, _⟩ => show (partner 9 s i).val = 0 + (i.val - dist s); rw [hv, hd]; omega

/-- Whether lane `i` takes the lesser entry at stage `s` of level `l`. -/
def lesser (l s : Nat) (i : Lane) : Bool := decide (i.val &&& 2 ^ (l + 1) = 0) == decide (i.val &&& 2 ^ s = 0)

theorem takeMin_apply {l s : Nat} (hl : l < 9) (hs : s ≤ l) (r : Fin 256) (i : Lane) :
    takeMin l s (at2 r i) = BitVec.ofBool (lesser l s i) := by
  have hd : dist s = 2 ^ s := by rw [dist, Nat.mod_eq_of_lt (by omega)]
  unfold takeMin
  rw [hd]
  by_cases h : l = 8
  · rw [if_pos h, clear_apply (by omega)]
    have : i.val &&& 2 ^ (l + 1) = 0 := by
      rw [and_two_pow_eq_zero_iff_testBit, h]; exact Nat.testBit_lt_two_pow i.isLt
    rw [lesser, decide_eq_true this, Bool.true_beq]
  · rw [if_neg h]
    show IntOp.xori (IntOp.xori (clear (BitVec.ofNat 32 (2 ^ (l + 1))) (at2 r i)) (clear (BitVec.ofNat 32 (2 ^ s)) (at2 r i))) 1#1 = _
    rw [clear_apply (by omega), clear_apply (by omega), ofBool_xor_xor_one]
    rfl

/-- Partners differ in which of the two entries they take. -/
theorem lesser_partner {l s : Nat} (hl : l < 9) (hs : s ≤ l) (i : Lane) : lesser l s (partner 9 s i) = !lesser l s i := by
  have hb : ∀ t, (partner 9 s i).val.testBit t = ((i.val.testBit t) ^^ (2 ^ s).testBit t) := fun t => by
    rw [partner_val (by omega), Nat.testBit_xor]
  have e : ∀ (x t : Nat), decide (x &&& 2 ^ t = 0) = !x.testBit t := fun x t => by
    rw [Bool.eq_iff_iff, decide_eq_true_iff, and_two_pow_eq_zero_iff_testBit]; simp
  unfold lesser
  rw [e, e, e, e, hb, hb, Nat.testBit_two_pow_self, Nat.testBit_two_pow_of_ne (by omega)]
  cases i.val.testBit (l + 1) <;> cases i.val.testBit s <;> rfl

/-- Row `r` carries keys `k ∘ f` with the numbers `f` beside them. -/
def Carries (k : Lane → EReal) (r : Fin 256) (p : FVec Ideal S256x512 .f32 × IVec S256x512 32) (f : Lane → Lane) : Prop :=
  ∀ i : Lane, p.1 (at2 r i) = k (f i) ∧ p.2 (at2 r i) = BitVec.ofNat 32 (f i).val

/-- The stage as the network names it. -/
abbrev netStage (ls : Nat × Nat) : Network (2 ^ 9) := stage 9 ls.2 fun i => (decide (i.val &&& 2 ^ (ls.1 + 1) = 0)) == false

theorem netStage_eq {l s : Nat} : netStage (l, s) = stage 9 s fun i => !lesser l s i :=
  stage_congr fun i hi => by simp only [lesser]; rw [decide_eq_true hi]; cases decide (i.val &&& 2 ^ (l + 1) = 0) <;> rfl

/-- One printed stage on a row of distinct keys is one stage of the network. -/
theorem exchange_carries {k : Lane → EReal} (hk : Function.Injective k) (r : Fin 256) {p} {f : Lane → Lane} (h : Carries k r p f)
    {l s : Nat} (hl : l < 9) (hs : s ≤ l) :
    ∃ f', Carries k r (exchange p (l, s)) f' ∧ k ∘ f' = Network.apply (netStage (l, s)) (k ∘ f) := by
  have hm : ∀ i : Lane, moves l s p.1 (at2 r i) = BitVec.ofBool ((lesser l s i && decide (k (f (partner 9 s i)) < k (f i)))
      || (!lesser l s i && decide (k (f i) < k (f (partner 9 s i))))) := fun i => by
    show IntOp.ori (IntOp.andi (takeMin l s (at2 r i)) (Ideal.cmp .olt (across s p.1 (at2 r i)) (p.1 (at2 r i))))
      (IntOp.andi (IntOp.xori (takeMin l s (at2 r i)) 1#1) (Ideal.cmp .ogt (across s p.1 (at2 r i)) (p.1 (at2 r i)))) = _
    rw [takeMin_apply hl hs, across_apply (by omega), (h i).1, (h (partner 9 s i)).1]
    show IntOp.ori (IntOp.andi _ (BitVec.ofBool (decide (k (f (partner 9 s i)) < k (f i)))))
      (IntOp.andi (IntOp.xori _ (BitVec.ofBool true)) (BitVec.ofBool (decide (k (f i) < k (f (partner 9 s i)))))) = _
    cases lesser l s i <;> cases decide (k (f (partner 9 s i)) < k (f i)) <;> cases decide (k (f i) < k (f (partner 9 s i))) <;> rfl
  refine ⟨fun i => if decide (k (f (partner 9 s i)) < k (f i)) = !lesser l s i then f i else f (partner 9 s i), fun i => ?_, ?_⟩
  · have key : ∀ {α : Type} (v : S256x512.Idx → α) (w : Lane → α), (∀ j, v (at2 r j) = w (f j)) →
        select (moves l s p.1) (across s v) v (at2 r i)
          = w (if decide (k (f (partner 9 s i)) < k (f i)) = !lesser l s i then f i else f (partner 9 s i)) := by
      intro α v w hv
      show Scalar.select (moves l s p.1 (at2 r i)) (across s v (at2 r i)) (v (at2 r i)) = _
      rw [hm, across_apply (by omega), hv, hv]
      rcases lt_trichotomy (k (f (partner 9 s i))) (k (f i)) with hlt | heq | hgt
      · rw [decide_eq_true hlt, decide_eq_false hlt.not_gt]
        cases lesser l s i <;> rfl
      · rw [hk heq]
        cases lesser l s i <;> simp [Scalar.select]
      · rw [decide_eq_true hgt, decide_eq_false hgt.not_gt]
        cases lesser l s i <;> rfl
    exact ⟨key p.1 k fun j => (h j).1, key p.2 (fun j => BitVec.ofNat 32 j.val) fun j => (h j).2⟩
  · rw [netStage_eq]
    funext i
    rw [apply_stage_select (by omega) _ (fun j => by rw [lesser_partner hl hs])]
    show k (if _ then _ else _) = _
    rw [apply_ite k]
    rfl

/-- Any run of stages. -/
theorem stages_carries {k : Lane → EReal} (hk : Function.Injective k) (r : Fin 256) :
    ∀ (L : List (Nat × Nat)) (_ : ∀ ls ∈ L, ls.1 < 9 ∧ ls.2 ≤ ls.1) (p) (f : Lane → Lane), Carries k r p f →
      ∃ f', Carries k r (L.foldl exchange p) f' ∧ k ∘ f' = Network.apply (L.flatMap netStage) (k ∘ f)
  | [], _, p, f, h => ⟨f, h, rfl⟩
  | ls :: L, hL, p, f, h => by
    obtain ⟨f₁, h₁, e₁⟩ := exchange_carries hk r h (hL ls (by simp)).1 (hL ls (by simp)).2
    obtain ⟨f₂, h₂, e₂⟩ := stages_carries hk r L (fun x hx => hL x (by simp [hx])) _ f₁ h₁
    refine ⟨f₂, h₂, ?_⟩
    rw [e₂, e₁, List.flatMap_cons, Network.apply_append]

theorem schedule_net : schedule.flatMap netStage = sortNet 9 false := by
  unfold schedule sortNet netStage
  rw [List.flatMap_assoc]
  congr 1
  funext l
  rw [List.flatMap_map]

theorem schedule_bounds : ∀ ls ∈ schedule, ls.1 < 9 ∧ ls.2 ≤ ls.1 := by decide

/-- The sort of a block, on a row of distinct scores: the row ends in increasing order, with the lanes the scores came from. -/
theorem sorted_apply {k : Lane → EReal} (hk : Function.Injective k) (r : Fin 256) (score : FVec Ideal S256x512 .f32)
    (h : ∀ i, score (at2 r i) = k i) :
    ∃ σ : Equiv.Perm Lane, Monotone (k ∘ σ) ∧ Carries k r (sorted score) σ := by
  have h0 : Carries k r (score, lanes) id := fun i => ⟨h i, iota_single_apply .tc S256x512 32 1 iota_S256x512_d1_w32 _⟩
  obtain ⟨f, hf, e⟩ := stages_carries hk r schedule schedule_bounds _ _ h0
  rw [schedule_net] at e
  obtain ⟨σ, hσ⟩ := Network.exists_perm (sortNet 9 false) (k ∘ id)
  have hfσ : f = σ := funext fun i => hk (congrFun (e.trans hσ) i)
  refine ⟨σ, ?_, hfσ ▸ hf⟩
  rw [← hfσ, e]
  exact sortNet_apply_monotone 9 _

end Cert.Proof

end
-- ==== Proof.KernelResult.lean ====
/- The kernel's two results: each point's clusters by score, and the mean of the least scores. -/
module

public import proofs.«01_k».proof.Proof.KernelValue
public import proofs.«01_k».proof.Proof.SortValue
public import proofs.«01_k».proof.Proof.Order

@[expose] public section

set_option maxRecDepth 16384

noncomputable section

namespace Cert.Proof

open Idealize.ShloMosaic Idealize.ShloMosaic.TcCoe Idealize.SL.Sem Cert.KernelIdeal Cert.KernelIdeal.Gen
open Finset

/-- The least scores of a block are summed. -/
theorem lossOf_apply (keys : FVec Ideal S256x512 .f32) (acc : Ideal .f32) :
    lossOf keys acc = (acc + ∑ r : Fin 256, keys (ix2 r 0) : EReal) := by
  unfold lossOf
  pointwise
  refine congrArg _ (Finset.sum_congr rfl fun r _ => ?_)
  exact Fin.sum_univ_one _

variable {m : (ℓ : Loc nD τ sig) → Buf (Elt Ideal) ℓ} {c : Dev nD}

/-- One row of a sorted block. -/
theorem blockSorted_apply (hs : (given m c).Symmetric)
    (hi : ∀ n, Function.Injective ((given m c).score n)) (n : Fin 65536) :
    ∃ σ : Equiv.Perm (Fin 512), Lists ((given m c).score n) σ
      ∧ (∀ i, (blockSorted m c (blockOf n.val n.isLt)).1 (ix2 ⟨n.val % 256, Nat.mod_lt _ (by decide)⟩ i) = (given m c).score n (σ i))
      ∧ ∀ i, (blockSorted m c (blockOf n.val n.isLt)).2 (ix2 ⟨n.val % 256, Nat.mod_lt _ (by decide)⟩ i) = BitVec.ofNat 32 (σ i).val := by
  have hn : 256 * (n.val / 256) + n.val % 256 = n.val := Nat.div_add_mod _ _
  obtain ⟨σ, hm, hc⟩ := sorted_apply (k := fun i => (given m c).score n i) (hi n)
    ⟨n.val % 256, Nat.mod_lt _ (by decide)⟩ (scores (iblk m c 0 (blockOf n.val n.isLt)) (tG m c) (tB m c) (tC m c)) (fun i => by
      have hb : 256 * (blockOf n.val n.isLt).val + n.val % 256 < 65536 := by
        show 256 * (n.val / 256) + n.val % 256 < 65536; rw [hn]; exact n.isLt
      refine (scores_apply hs (blockOf n.val n.isLt) ⟨n.val % 256, Nat.mod_lt _ (by decide)⟩ i hb).trans ?_
      exact congrArg (fun q => (given m c).score q i) (Fin.ext hn))
  exact ⟨σ, hm, fun i => (hc i).1, fun i => (hc i).2⟩

/-- The two results by the orders of the scores. -/
theorem kernel_results (hs : (given m c).Symmetric)
    (hi : ∀ n, Function.Injective ((given m c).score n)) :
    ∃ σ : Fin 65536 → Equiv.Perm (Fin 512), (∀ n, Lists ((given m c).score n) (σ n))
      ∧ (∀ n i, (positions m c : IVec S65536x512 32) (ix2 n i) = BitVec.ofNat 32 (σ n i).val)
      ∧ total m c = (∑ n, (given m c).score n (σ n 0) : EReal) := by
  choose σ h1 h2 h3 using blockSorted_apply hs hi
  refine ⟨σ, h1, h3, ?_⟩
  let least : Nat → EReal := fun n => if h : n < 65536 then (given m c).score ⟨n, h⟩ (σ ⟨n, h⟩ 0) else 0
  have hN : cfg0.N = 256 := N_0
  have hl : ∀ (n : Nat) (h : n < cfg0.N) (acc : EReal), lossOf (blockSorted m c ⟨n, h⟩).1 acc
      = (acc + ∑ r ∈ range 256, least (256 * n + r) : EReal) := fun n h acc => by
    rw [lossOf_apply, Finset.sum_range]
    refine congrArg _ (Finset.sum_congr rfl fun r _ => ?_)
    have hb : 256 * n + r.val < 65536 := by omega
    have hq := h2 ⟨256 * n + r.val, hb⟩ 0
    rw [show least (256 * n + r.val) = _ from dif_pos hb, ← hq]
    have e1 : blockOf (256 * n + r.val) hb = ⟨n, h⟩ := Fin.ext (by show (256 * n + r.val) / 256 = n; omega)
    have e2 : (⟨(256 * n + r.val) % 256, Nat.mod_lt _ (by decide)⟩ : Fin 256) = r := Fin.ext (by show (256 * n + r.val) % 256 = r.val; omega)
    dsimp only
    rw [e1, e2]
  have hc : ∀ (n : Nat) (h : n < cfg0.N), chain m c n h = (∑ q ∈ range (256 * (n + 1)), least q : EReal) := fun n => by
    induction n with
    | zero =>
      intro h
      have hz : (Scalar.ofBits .f32 0x00000000#32 : Ideal .f32) = (0 : EReal) := Ideal.ofBits_zero_f32
      show lossOf _ _ = _
      rw [hz, hl 0 h 0, zero_add]
      simp
    | succ n ih =>
      intro h
      show lossOf _ (chain m c n _) = _
      rw [ih, hl, show 256 * (n + 1 + 1) = 256 * (n + 1) + 256 by ring, sum_range_add]
  refine (hc 255 lt_N).trans ?_
  rw [show 256 * (255 + 1) = 65536 by rfl, Finset.sum_range]
  exact Finset.sum_congr rfl fun n _ => dif_pos n.isLt

end Cert.Proof

end
-- ==== Proof.Agree.lean ====
/- The kernel's results are the reference's. -/
module

public import proofs.«01_k».proof.Proof.Admissible
public import proofs.«01_k».proof.Proof.KernelResult

@[expose] public section

set_option maxRecDepth 16384

noncomputable section

namespace Cert.Proof

open Idealize.ShloMosaic Cert.KernelIdeal Cert.KernelIdeal.Gen

/-- A value grows with the score. -/
theorem valueOf_mono : Monotone Ref.valueOf := fun a b h => by
  unfold Ref.valueOf
  exact mul_le_mul_of_nonneg_left (add_le_add_left h _) (EReal.coe_nonneg.mpr (by norm_num))

/-- Half of the mean of some scores and the offset is the mean value. -/
theorem mean_of {ι : Type} [Fintype ι] (s : ι → EReal) {w : ℝ} (hw : 0 ≤ w) (hc : w * Fintype.card ι = 1) :
    ((1 / 2 : ℝ) : EReal) * ((w : EReal) * ∑ n, s n + Ref.offset) = (w : EReal) * ∑ n, Ref.valueOf (s n) := by
  unfold Ref.valueOf
  rw [← coe_mul_sum _ _ (by norm_num), Finset.sum_add_distrib, coe_sum, mul_left_comm]
  refine congrArg (((1 / 2 : ℝ) : EReal) * ·) ?_
  rw [EReal.left_distrib_of_nonneg_of_ne_top (EReal.coe_nonneg.mpr hw) (EReal.coe_ne_top _), ← EReal.coe_mul, Finset.sum_const, Finset.card_univ,
    nsmul_eq_mul, ← mul_assoc, hc, one_mul]

/-- Half of the mean score and the offset is the mean value. -/
theorem mean_value (s : Fin 65536 → EReal) :
    ((1 / 2 : ℝ) : EReal) * (((1 / 65536 : ℝ) : EReal) * ∑ n, s n + Ref.offset) = ((1 / 65536 : ℝ) : EReal) * ∑ n, Ref.valueOf (s n) :=
  mean_of s (by norm_num) (by rw [Fintype.card_fin]; norm_num)

variable {m : (ℓ : Loc nD τ sig) → Buf (Elt Ideal) ℓ} {c : Dev nD} (h : Admits (given m c))
include h

/-- The values of the kernel's arguments by the reference. -/
theorem agree :
    (positions m c : IVec S65536x512 32) = Ref.places (Ref.nll (given m c).x (given m c).mu (given m c).var)
      ∧ (meanLoss m c : FVec Ideal S_ .f32) = Ref.meanFirst (Ref.taken (Ref.nll (given m c).x (given m c).mu (given m c).var)
          (Ref.places (Ref.nll (given m c).x (given m c).mu (given m c).var))) := by
  obtain ⟨σ, k1, k2, k3⟩ := kernel_results h.symm fun n a b hab => h.distinct n (congrArg Ref.valueOf hab)
  obtain ⟨τ, r1, r2, r3⟩ := Ref.reference_results h.nonneg h.symm h.point
  have e : ∀ n, σ n = τ n := fun n => ((k1 n).comp valueOf_mono).unique (h.distinct n) (r1 n)
  constructor
  · funext j
    have hj : j = ix2 (j 0) (j 1) := by
      funext a
      match a with
      | ⟨0, _⟩ => rfl
      | ⟨1, _⟩ => rfl
    rw [hj]
    exact (k2 _ _).trans ((congrArg (fun p => BitVec.ofNat 32 (p (j 1)).val) (e (j 0))).trans (r2 _ _).symm)
  · funext j
    refine Eq.trans ?_ (r3 j).symm
    show (Ideal.ofBits .f32 0x3F000000#32 * (Ideal.div (total m c) (Ideal.ofBits .f32 0x47800000#32) + Ideal.ofBits .f32 0x416B3F8E#32) : EReal) = _
    rw [k3, Ref.ofBits_half, Ref.ofBits_rows, Ref.ofBits_offset, Ideal.div_coe (by norm_num), mul_comm (∑ n, _), mean_value]
    simp only [e]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The reference ends with its arguments unchanged and with no semaphore counter raised, since it declares none. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

section
open Cert.KernelIdeal

variable [Cert.Pre_admissible.Facts]

/-- What the precondition gives of the kernel's arguments. -/
theorem given_admits {m : (ℓ : Loc nD τ sig) → Buf (Elt Ideal) ℓ} (h : Cert.Pre_KernelIdeal_admissible m) (c : Dev nD) : Admits (given m c) := by
  obtain ⟨h1, h2, g0, g1, g2, g3, g4, g5, g6, g7⟩ := h c
  exact admits (A := given m c) rfl h1 h2 g0 g1 g2 g3 g4 g5 g6 g7

/-- The kernel and the reference end with equal results. -/
theorem algebraic : Cert.algebraic_KernelIdeal_ReferenceIdeal_pre_admissible (hKernelIdeal := Cert.KernelIdeal.Gen.facts)
    (hReferenceIdeal := Cert.ReferenceIdeal.Gen.facts) := by
  intro m ρ m' ρ' hpre hargs
  refine ⟨positions m, meanLoss m, run m ρ, ?_⟩
  refine (θ_run Cert.ReferenceIdeal.defs _ _).mono ?_ (Ref.run_read m' ρ')
  intro r h c
  have e : Ref.given m' c = given m c := by
    obtain ⟨a0, a1, a2⟩ := hargs c
    unfold Ref.given given
    rw [a0, a1, a2]
  obtain ⟨h0, h1, h2⟩ := h c
  obtain ⟨r0, r1⟩ := agree (given_admits hpre c)
  rw [e] at h0 h1
  exact ⟨h0.trans r0.symm, h1.trans r1.symm, h2⟩

end

/-- Everything the certificate claims. -/
theorem claim : Cert.Claim :=
  let p := admissible_facts
  ⟨Cert.Kernel.Gen.facts, Cert.KernelIdeal.Gen.facts, Cert.ReferenceIdeal.Gen.facts, p,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
